-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x768 : Shape := ⟨3, ![1, 2048, 768]⟩
abbrev S1x2048x16 : Shape := ⟨3, ![1, 2048, 16]⟩
abbrev S768x16000 : Shape := ⟨2, ![768, 16000]⟩
abbrev S768x4000 : Shape := ⟨2, ![768, 4000]⟩
abbrev S4000 : Shape := ⟨1, ![4000]⟩
abbrev S4000x16000 : Shape := ⟨2, ![4000, 16000]⟩
abbrev S16000 : Shape := ⟨1, ![16000]⟩
abbrev S768x2000 : Shape := ⟨2, ![768, 2000]⟩
abbrev S2000 : Shape := ⟨1, ![2000]⟩
abbrev S2000x16000 : Shape := ⟨2, ![2000, 16000]⟩
abbrev S2048x768 : Shape := ⟨2, ![2048, 768]⟩
abbrev S2048x16 : Shape := ⟨2, ![2048, 16]⟩
abbrev S4 : Shape := ⟨1, ![4]⟩
abbrev S2048x128 : Shape := ⟨2, ![2048, 128]⟩
abbrev S2048 : Shape := ⟨1, ![2048]⟩
abbrev S2048x1 : Shape := ⟨2, ![2048, 1]⟩
abbrev S1x2048x1 : Shape := ⟨3, ![1, 2048, 1]⟩
abbrev S1 : Shape := ⟨1, ![1]⟩
abbrev S1x1x1 : Shape := ⟨3, ![1, 1, 1]⟩
abbrev S1x4000 : Shape := ⟨2, ![1, 4000]⟩
abbrev S1x2000 : Shape := ⟨2, ![1, 2000]⟩
abbrev S2048x4000 : Shape := ⟨2, ![2048, 4000]⟩
abbrev S2048x2000 : Shape := ⟨2, ![2048, 2000]⟩
abbrev S768x1024 : Shape := ⟨2, ![768, 1024]⟩
abbrev S1x1024 : Shape := ⟨2, ![1, 1024]⟩
abbrev S768x512 : Shape := ⟨2, ![768, 512]⟩
abbrev S1x512 : Shape := ⟨2, ![1, 512]⟩
abbrev S2048x1024 : Shape := ⟨2, ![2048, 1024]⟩
abbrev S2048x512 : Shape := ⟨2, ![2048, 512]⟩
abbrev S3 : Shape := ⟨1, ![3]⟩
abbrev S_ : Shape := ⟨0, ![]⟩
abbrev S768x16128 : Shape := ⟨2, ![768, 16128]⟩
abbrev S4000x16128 : Shape := ⟨2, ![4000, 16128]⟩
abbrev S1x16000 : Shape := ⟨2, ![1, 16000]⟩
abbrev S2000x16128 : Shape := ⟨2, ![2000, 16128]⟩
abbrev S2048x16000 : Shape := ⟨2, ![2048, 16000]⟩
abbrev S768x256 : Shape := ⟨2, ![768, 256]⟩
abbrev S4000x256 : Shape := ⟨2, ![4000, 256]⟩
abbrev S1x256 : Shape := ⟨2, ![1, 256]⟩
abbrev S2000x256 : Shape := ⟨2, ![2000, 256]⟩
abbrev S2048x256 : Shape := ⟨2, ![2048, 256]⟩
abbrev S256x128 : Shape := ⟨2, ![256, 128]⟩
abbrev S256x1 : Shape := ⟨2, ![256, 1]⟩
abbrev S256x2000 : Shape := ⟨2, ![256, 2000]⟩
abbrev S256x256 : Shape := ⟨2, ![256, 256]⟩
abbrev S256x4000 : Shape := ⟨2, ![256, 4000]⟩
abbrev S256x768 : Shape := ⟨2, ![256, 768]⟩
abbrev S1x2048x16000 : Shape := ⟨3, ![1, 2048, 16000]⟩

abbrev nBuf : Space → Nat
  | .hbm => 33
  | .vmem => 36
  | .smem => 2
  | _ => 0

abbrev bufTy : (tb : Table) → Fin (tcTables nBuf tb) → BufTy
  | .hbm, ⟨0, _⟩ => ⟨S1x2048x768, .f32⟩
  | .hbm, ⟨1, _⟩ => ⟨S1x2048x16, .f32⟩
  | .hbm, ⟨2, _⟩ => ⟨S768x16000, .f32⟩
  | .hbm, ⟨3, _⟩ => ⟨S768x4000, .f32⟩
  | .hbm, ⟨4, _⟩ => ⟨S4000, .f32⟩
  | .hbm, ⟨5, _⟩ => ⟨S4000x16000, .f32⟩
  | .hbm, ⟨6, _⟩ => ⟨S16000, .f32⟩
  | .hbm, ⟨7, _⟩ => ⟨S768x2000, .f32⟩
  | .hbm, ⟨8, _⟩ => ⟨S2000, .f32⟩
  | .hbm, ⟨9, _⟩ => ⟨S2000x16000, .f32⟩
  | .hbm, ⟨10, _⟩ => ⟨S16000, .f32⟩
  | .hbm, ⟨11, _⟩ => ⟨S2048x768, .f32⟩
  | .hbm, ⟨12, _⟩ => ⟨S2048x16, .f32⟩
  | .hbm, ⟨13, _⟩ => ⟨S4, .i32⟩
  | .hbm, ⟨14, _⟩ => ⟨S2048x128, .i32⟩
  | .hbm, ⟨15, _⟩ => ⟨S2048x768, .bf16⟩
  | .hbm, ⟨16, _⟩ => ⟨S1x4000, .f32⟩
  | .hbm, ⟨17, _⟩ => ⟨S1x2000, .f32⟩
  | .hbm, ⟨18, _⟩ => ⟨S2048x4000, .bf16⟩
  | .hbm, ⟨19, _⟩ => ⟨S2048x2000, .bf16⟩
  | .hbm, ⟨20, _⟩ => ⟨S_, .i32⟩
  | .hbm, ⟨21, _⟩ => ⟨S_, .f32⟩
  | .hbm, ⟨22, _⟩ => ⟨S768x16128, .f32⟩
  | .hbm, ⟨23, _⟩ => ⟨S_, .i32⟩
  | .hbm, ⟨24, _⟩ => ⟨S_, .f32⟩
  | .hbm, ⟨25, _⟩ => ⟨S4000x16128, .f32⟩
  | .hbm, ⟨26, _⟩ => ⟨S1x16000, .f32⟩
  | .hbm, ⟨27, _⟩ => ⟨S_, .i32⟩
  | .hbm, ⟨28, _⟩ => ⟨S_, .f32⟩
  | .hbm, ⟨29, _⟩ => ⟨S2000x16128, .f32⟩
  | .hbm, ⟨30, _⟩ => ⟨S1x16000, .f32⟩
  | .hbm, ⟨31, _⟩ => ⟨S2048x16000, .f32⟩
  | .hbm, ⟨32, _⟩ => ⟨S1x2048x16000, .f32⟩
  | .local _ .vmem, ⟨0, _⟩ => ⟨S2048x16, .f32⟩
  | .local _ .vmem, ⟨1, _⟩ => ⟨S2048x768, .f32⟩
  | .local _ .vmem, ⟨2, _⟩ => ⟨S2048x128, .i32⟩
  | .local _ .vmem, ⟨3, _⟩ => ⟨S2048x768, .bf16⟩
  | .local _ .vmem, ⟨4, _⟩ => ⟨S2048x768, .f32⟩
  | .local _ .vmem, ⟨5, _⟩ => ⟨S768x1024, .f32⟩
  | .local _ .vmem, ⟨6, _⟩ => ⟨S768x1024, .f32⟩
  | .local _ .vmem, ⟨7, _⟩ => ⟨S1x1024, .f32⟩
  | .local _ .vmem, ⟨8, _⟩ => ⟨S1x1024, .f32⟩
  | .local _ .vmem, ⟨9, _⟩ => ⟨S768x512, .f32⟩
  | .local _ .vmem, ⟨10, _⟩ => ⟨S768x512, .f32⟩
  | .local _ .vmem, ⟨11, _⟩ => ⟨S1x512, .f32⟩
  | .local _ .vmem, ⟨12, _⟩ => ⟨S1x512, .f32⟩
  | .local _ .vmem, ⟨13, _⟩ => ⟨S2048x1024, .bf16⟩
  | .local _ .vmem, ⟨14, _⟩ => ⟨S2048x1024, .bf16⟩
  | .local _ .vmem, ⟨15, _⟩ => ⟨S2048x512, .bf16⟩
  | .local _ .vmem, ⟨16, _⟩ => ⟨S2048x512, .bf16⟩
  | .local _ .vmem, ⟨17, _⟩ => ⟨S2048x128, .i32⟩
  | .local _ .vmem, ⟨18, _⟩ => ⟨S2048x768, .bf16⟩
  | .local _ .vmem, ⟨19, _⟩ => ⟨S2048x4000, .bf16⟩
  | .local _ .vmem, ⟨20, _⟩ => ⟨S2048x2000, .bf16⟩
  | .local _ .vmem, ⟨21, _⟩ => ⟨S768x256, .f32⟩
  | .local _ .vmem, ⟨22, _⟩ => ⟨S768x256, .f32⟩
  | .local _ .vmem, ⟨23, _⟩ => ⟨S4000x256, .f32⟩
  | .local _ .vmem, ⟨24, _⟩ => ⟨S4000x256, .f32⟩
  | .local _ .vmem, ⟨25, _⟩ => ⟨S1x256, .f32⟩
  | .local _ .vmem, ⟨26, _⟩ => ⟨S1x256, .f32⟩
  | .local _ .vmem, ⟨27, _⟩ => ⟨S2000x256, .f32⟩
  | .local _ .vmem, ⟨28, _⟩ => ⟨S2000x256, .f32⟩
  | .local _ .vmem, ⟨29, _⟩ => ⟨S1x256, .f32⟩
  | .local _ .vmem, ⟨30, _⟩ => ⟨S1x256, .f32⟩
  | .local _ .vmem, ⟨31, _⟩ => ⟨S2048x256, .f32⟩
  | .local _ .vmem, ⟨32, _⟩ => ⟨S2048x256, .f32⟩
  | .local _ .vmem, ⟨33, _⟩ => ⟨S768x256, .bf16⟩
  | .local _ .vmem, ⟨34, _⟩ => ⟨S4000x256, .bf16⟩
  | .local _ .vmem, ⟨35, _⟩ => ⟨S2000x256, .bf16⟩
  | .local _ .smem, ⟨0, _⟩ => ⟨S4, .i32⟩
  | .local _ .smem, ⟨1, _⟩ => ⟨S3, .i32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_c : Ref sig .tc := ⟨.hbm, 20, rfl⟩
abbrev main_call0_v0 : Ref sig .tc := ⟨.hbm, 21, rfl⟩
abbrev main_v7 : Ref sig .tc := ⟨.hbm, 22, rfl⟩
abbrev main_c_0 : Ref sig .tc := ⟨.hbm, 23, rfl⟩
abbrev main_call1_v0 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_call2_v0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v6 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg8_1 : Ref sig .tc := ⟨.vmem, 30, rfl⟩
abbrev cc2_stg9_0 : Ref sig .tc := ⟨.vmem, 31, rfl⟩
abbrev cc2_stg9_1 : Ref sig .tc := ⟨.vmem, 32, rfl⟩
abbrev cc2_scratch0 : Ref sig .tc := ⟨.vmem, 33, rfl⟩
abbrev cc2_scratch1 : Ref sig .tc := ⟨.vmem, 34, rfl⟩
abbrev cc2_scratch2 : Ref sig .tc := ⟨.vmem, 35, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem7_1 : DmaSem sig := 29
abbrev cc2_sem8_0 : DmaSem sig := 30
abbrev cc2_sem8_1 : DmaSem sig := 31
abbrev cc2_sem9_0 : DmaSem sig := 32
abbrev cc2_sem9_1 : DmaSem sig := 33

abbrev nD : Nat := 1
abbrev τ : Topo := Topo.v7x

variable {F : FTy → Type} [FloatOps F]

abbrev grid0 : Pipeline.Grid := .none

abbrev stage0_0 : Fin 1 → Memref sig .tc .vmem S2048x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S768x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S768x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![63], ![false]⟩

abbrev pre2 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (inb_S3_S1_2 : ∀ a, (![2] : Fin 1 → Nat) a + S1.size a ≤ S3.size a) (numel1_S1 : S1.numel = 1) (pf : pre2.Contents (Elt F)) (i : grid2.Coords) : Fin 2 → Nat :=
  let arg0 : BitVec 32 := BitVec.ofNat 32 (i 0).val
  let c2 : Index := 2#32
  let v0 : BitVec 32 := pf.at 0 (Rect.unit (s := S3) ![2] S1.size inb_S3_S1_2) numel1_S1
  let c0_i32 : BitVec 32 := 0#32
  let v1 : BitVec 1 := Scalar.cmpi .sgt v0 c0_i32
  let c0_i32_0 : BitVec 32 := 0#32
  let v2 : BitVec 32 := Scalar.select v1 arg0 c0_i32_0
  let c0_i32_1 : BitVec 32 := 0#32
  let c0_i32_2 : BitVec 32 := 0#32
  ![c0_i32_1.toNat, v2.toNat]

def cc2_transform_5 (inb_S3_S1_1 : ∀ a, (![1] : Fin 1 → Nat) a + S1.size a ≤ S3.size a) (numel1_S1 : S1.numel = 1) (pf : pre2.Contents (Elt F)) (i : grid2.Coords) : Fin 2 → Nat :=
  let arg0 : BitVec 32 := BitVec.ofNat 32 (i 0).val
  let c1 : Index := 1#32
  let v0 : BitVec 32 := pf.at 0 (Rect.unit (s := S3) ![1] S1.size inb_S3_S1_1) numel1_S1
  let c0_i32 : BitVec 32 := 0#32
  let v1 : BitVec 1 := Scalar.cmpi .sgt v0 c0_i32
  let c0_i32_0 : BitVec 32 := 0#32
  let v2 : BitVec 32 := Scalar.select v1 arg0 c0_i32_0
  let c0_i32_1 : BitVec 32 := 0#32
  let c0_i32_2 : BitVec 32 := 0#32
  ![c0_i32_1.toNat, v2.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (inb_S3_S1_0 : ∀ a, (![0] : Fin 1 → Nat) a + S1.size a ≤ S3.size a) (numel1_S1 : S1.numel = 1) (pf : pre2.Contents (Elt F)) (i : grid2.Coords) : Fin 2 → Nat :=
  let arg0 : BitVec 32 := BitVec.ofNat 32 (i 0).val
  let c0 : Index := 0#32
  let v0 : BitVec 32 := pf.at 0 (Rect.unit (s := S3) ![0] S1.size inb_S3_S1_0) numel1_S1
  let c0_i32 : BitVec 32 := 0#32
  let v1 : BitVec 1 := Scalar.cmpi .sgt v0 c0_i32
  let c0_i32_0 : BitVec 32 := 0#32
  let v2 : BitVec 32 := Scalar.select v1 arg0 c0_i32_0
  let c0_i32_1 : BitVec 32 := 0#32
  let c0_i32_2 : BitVec 32 := 0#32
  ![c0_i32_1.toNat, v2.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S2048x128 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x4000 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x2000 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S768x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2048x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== ReferenceIdeal.lean ====
abbrev S1x2048x768 : Shape := ⟨3, ![1, 2048, 768]⟩
abbrev S1x2048x16 : Shape := ⟨3, ![1, 2048, 16]⟩
abbrev S768x16000 : Shape := ⟨2, ![768, 16000]⟩
abbrev S768x4000 : Shape := ⟨2, ![768, 4000]⟩
abbrev S4000 : Shape := ⟨1, ![4000]⟩
abbrev S4000x16000 : Shape := ⟨2, ![4000, 16000]⟩
abbrev S16000 : Shape := ⟨1, ![16000]⟩
abbrev S768x2000 : Shape := ⟨2, ![768, 2000]⟩
abbrev S2000 : Shape := ⟨1, ![2000]⟩
abbrev S2000x16000 : Shape := ⟨2, ![2000, 16000]⟩
abbrev S_ : Shape := ⟨0, ![]⟩
abbrev S1x2048 : Shape := ⟨2, ![1, 2048]⟩
abbrev S1 : Shape := ⟨1, ![1]⟩
abbrev S1x1 : Shape := ⟨2, ![1, 1]⟩
abbrev S1x2048x16000 : Shape := ⟨3, ![1, 2048, 16000]⟩
abbrev S1x2048x4000 : Shape := ⟨3, ![1, 2048, 4000]⟩
abbrev S1x1x4000 : Shape := ⟨3, ![1, 1, 4000]⟩
abbrev S1x1x16000 : Shape := ⟨3, ![1, 1, 16000]⟩
abbrev S1x2048x2000 : Shape := ⟨3, ![1, 2048, 2000]⟩
abbrev S1x1x2000 : Shape := ⟨3, ![1, 1, 2000]⟩
abbrev S1x2048x1 : Shape := ⟨3, ![1, 2048, 1]⟩

abbrev nBuf : Space → Nat
  | .hbm => 76
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S1x2048x16, .f32⟩
  | .hbm, ⟨2, _⟩ => ⟨S768x16000, .f32⟩
  | .hbm, ⟨3, _⟩ => ⟨S768x4000, .f32⟩
  | .hbm, ⟨4, _⟩ => ⟨S4000, .f32⟩
  | .hbm, ⟨5, _⟩ => ⟨S4000x16000, .f32⟩
  | .hbm, ⟨6, _⟩ => ⟨S16000, .f32⟩
  | .hbm, ⟨7, _⟩ => ⟨S768x2000, .f32⟩
  | .hbm, ⟨8, _⟩ => ⟨S2000, .f32⟩
  | .hbm, ⟨9, _⟩ => ⟨S2000x16000, .f32⟩
  | .hbm, ⟨10, _⟩ => ⟨S16000, .f32⟩
  | .hbm, ⟨11, _⟩ => ⟨S_, .f32⟩
  | .hbm, ⟨12, _⟩ => ⟨S1x2048, .f32⟩
  | .hbm, ⟨13, _⟩ => ⟨S_, .f32⟩
  | .hbm, ⟨14, _⟩ => ⟨S1, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S1x1, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .i1⟩
  | .hbm, ⟨24, _⟩ => ⟨S_, .f32⟩
  | .hbm, ⟨25, _⟩ => ⟨S1x2048, .f32⟩
  | .hbm, ⟨26, _⟩ => ⟨S1x2048, .i1⟩
  | .hbm, ⟨27, _⟩ => ⟨S_, .i32⟩
  | .hbm, ⟨28, _⟩ => ⟨S_, .i32⟩
  | .hbm, ⟨29, _⟩ => ⟨S1x2048, .i32⟩
  | .hbm, ⟨30, _⟩ => ⟨S1x2048, .i32⟩
  | .hbm, ⟨31, _⟩ => ⟨S1x2048, .i32⟩
  | .hbm, ⟨32, _⟩ => ⟨S_, .i32⟩
  | .hbm, ⟨33, _⟩ => ⟨S1x2048, .i32⟩
  | .hbm, ⟨34, _⟩ => ⟨S1x2048, .i32⟩
  | .hbm, ⟨35, _⟩ => ⟨S1x2048x16000, .f32⟩
  | .hbm, ⟨36, _⟩ => ⟨S1x2048x4000, .f32⟩
  | .hbm, ⟨37, _⟩ => ⟨S1x1x4000, .f32⟩
  | .hbm, ⟨38, _⟩ => ⟨S1x2048x4000, .f32⟩
  | .hbm, ⟨39, _⟩ => ⟨S1x2048x4000, .f32⟩
  | .hbm, ⟨40, _⟩ => ⟨S_, .f32⟩
  | .hbm, ⟨41, _⟩ => ⟨S1x2048x4000, .f32⟩
  | .hbm, ⟨42, _⟩ => ⟨S1x2048x4000, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1x2048x4000, .f32⟩
  | .hbm, ⟨47, _⟩ => ⟨S1x2048x4000, .f32⟩
  | .hbm, ⟨48, _⟩ => ⟨S1x2048x4000, .f32⟩
  | .hbm, ⟨49, _⟩ => ⟨S_, .f32⟩
  | .hbm, ⟨50, _⟩ => ⟨S1x2048x4000, .f32⟩
  | .hbm, ⟨51, _⟩ => ⟨S1x2048x4000, .f32⟩
  | .hbm, ⟨52, _⟩ => ⟨S1x2048x4000, .f32⟩
  | .hbm, ⟨53, _⟩ => ⟨S1x2048x16000, .f32⟩
  | .hbm, ⟨54, _⟩ => ⟨S1x1x16000, .f32⟩
  | .hbm, ⟨55, _⟩ => ⟨S1x2048x16000, .f32⟩
  | .hbm, ⟨56, _⟩ => ⟨S1x2048x16000, .f32⟩
  | .hbm, ⟨57, _⟩ => ⟨S1x2048x2000, .f32⟩
  | .hbm, ⟨58, _⟩ => ⟨S1x1x2000, .f32⟩
  | .hbm, ⟨59, _⟩ => ⟨S1x2048x2000, .f32⟩
  | .hbm, ⟨60, _⟩ => ⟨S1x2048x2000, .f32⟩
  | .hbm, ⟨61, _⟩ => ⟨S1x2048x16000, .f32⟩
  | .hbm, ⟨62, _⟩ => ⟨S1x1x16000, .f32⟩
  | .hbm, ⟨63, _⟩ => ⟨S1x2048x16000, .f32⟩
  | .hbm, ⟨64, _⟩ => ⟨S1x2048x16000, .f32⟩
  | .hbm, ⟨65, _⟩ => ⟨S1x2048x1, .i32⟩
  | .hbm, ⟨66, _⟩ => ⟨S_, .i32⟩
  | .hbm, ⟨67, _⟩ => ⟨S1x2048x1, .i32⟩
  | .hbm, ⟨68, _⟩ => ⟨S1x2048x1, .i1⟩
  | .hbm, ⟨69, _⟩ => ⟨S_, .i32⟩
  | .hbm, ⟨70, _⟩ => ⟨S1x2048x1, .i32⟩
  | .hbm, ⟨71, _⟩ => ⟨S1x2048x1, .i1⟩
  | .hbm, ⟨72, _⟩ => ⟨S1x2048x16000, .i1⟩
  | .hbm, ⟨73, _⟩ => ⟨S1x2048x16000, .f32⟩
  | .hbm, ⟨74, _⟩ => ⟨S1x2048x16000, .i1⟩
  | .hbm, ⟨75, _⟩ => ⟨S1x2048x16000, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_c_4 : Ref sig .tc := ⟨.hbm, 28, rfl⟩
abbrev main_call0_v0 : Ref sig .tc := ⟨.hbm, 29, rfl⟩
abbrev main_call0_v1 : Ref sig .tc := ⟨.hbm, 30, rfl⟩
abbrev main_v11 : Ref sig .tc := ⟨.hbm, 31, rfl⟩
abbrev main_c_5 : Ref sig .tc := ⟨.hbm, 32, rfl⟩
abbrev main_call1_v0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_v19 : Ref sig .tc := ⟨.hbm, 42, rfl⟩
abbrev main_cst_7 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_call2_v0 : Ref sig .tc := ⟨.hbm, 72, rfl⟩
abbrev main_v45 : Ref sig .tc := ⟨.hbm, 73, rfl⟩
abbrev main_call3_v0 : Ref sig .tc := ⟨.hbm, 74, rfl⟩
abbrev main_v46 : Ref sig .tc := ⟨.hbm, 75, rfl⟩

abbrev nD : Nat := 1
abbrev τ : Topo := Topo.v7x

variable {F : FTy → Type} [FloatOps F]
-- ==== Proof.KBase.lean ====
/-
  What every module about the kernel shares: the resource algebra, a memref's buffer held whole, and the
  canonical contents under an owned memref.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Frame
public import Idealize.ShloMosaic.Lib.Pipeline.FrameBody
public import Idealize.ShloMosaic.Lib.Pipeline.TableIdle
public import Idealize.ShloMosaic.Lib.Pipeline.Value
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The whole program's resource algebra: two copies of the pipeline library's, one for the program's set-up and
    one its regions spend, beside the counters. -/
abbrev UU : Type := IProdConst (Fin 2) (UR sig nD τ) × Counters

local notation "𝕄" => MT nD τ sig Unit (Elt F) ℕ UU ℕ

abbrev 𝒱₀ : Variants := Variants.none
abbrev L : GSem nD τ sig → Finset Unit := fun _ => ∅
abbrev lv : GSem nD τ sig → Unit → ℕ := fun _ _ => 0

/-- Memref `M`'s buffer on core `c`, held whole at the contents that read `X`. -/
abbrev pt (c : Dev nD) {sp : Space} {S : Shape} {e : EltTy} (M : Memref sig .tc sp S e) (X : S.Idx → Elt F e) : sProp 𝕄 :=
  M.view.loc (c : Thread nD τ) ↦{fullShare} M.view.rep X

/-- Owning a whole memref at `X` is holding its buffer at the contents that read `X`. -/
theorem owns_eq_pt (c : Dev nD) {sp : Space} {S : Shape} {e : EltTy} (M : Memref sig .tc sp S e) (hM : M.IsWhole)
    (X : S.Idx → Elt F e) : (owns (c : Thread nD τ) M fullShare X : sProp 𝕄) = pt c M X := by
  rw [owns_eq_rep, hM.set_eq_univ]

/-- A whole memref's buffer at any contents is the memref owned at what they read. -/
theorem pt_of_read (c : Dev nD) {sp : Space} {S : Shape} {e : EltTy} (M : Memref sig .tc sp S e) (hM : M.IsWhole)
    (f : Buf (Elt F) (M.view.loc (c : Thread nD τ))) (X : S.Idx → Elt F e) (h : M.view.read (Elt F) f = X) :
    (M.view.loc (c : Thread nD τ) ↦{fullShare} f : sProp 𝕄) ⊢ owns (c : Thread nD τ) M fullShare X := by
  unfold owns; rw [hM.set_eq_univ]
  iintro H; iexists f; isplitr
  · ipureintro; exact h
  · iexact H

/-- A load of a box reads the box of the contents. -/
theorem readAt_rep {sp : Space} {S : Shape} {e : EltTy} (M : Memref sig .tc sp S e) (X : S.Idx → Elt F e) (r : Rect S) :
    View.readAt (Elt F) M.view r.toLoadRect (M.view.rep X) = View.ld X r := by
  rw [View.readAt_eq_ld, View.read_rep]

/-- A load of the whole shape reads the contents. -/
theorem readAt_rep_zero {sp : Space} {S : Shape} {e : EltTy} (M : Memref sig .tc sp S e) (X : S.Idx → Elt F e)
    {off : Fin S.rank → Nat} (h : off = fun _ => 0) (inb : ∀ a, off a + S.size a ≤ S.size a) :
    View.readAt (Elt F) M.view (Rect.unit off S.size inb).toLoadRect (M.view.rep X) = X := by
  rw [readAt_rep, View.ld_unit_zero h]

/-- One store of the whole shape leaves its payload. -/
theorem read_writes_zero {sp : Space} {S : Shape} {e : EltTy} (M : Memref sig .tc sp S e) (X W : S.Idx → Elt F e)
    {off : Fin S.rank → Nat} (h : off = fun _ => 0) (inb : ∀ a, off a + S.size a ≤ S.size a) :
    View.read (Elt F) M.view (M.view.writes (Elt F) (M.view.rep X) [(⟨Rect.unit off S.size inb, W⟩ : View.Piece (Elt F) S e)]) = W := by
  subst h
  rw [View.read_writes_eq_canon _ _ _ (fun y => ⟨_, List.mem_singleton_self _, by
    show y ∈ (Rect.whole S).set; rw [Rect.set_whole]; exact Finset.mem_univ y⟩), View.canon_unit_zero rfl]

/-- The zero offsets of a rank-two shape. -/
theorem zero2 : (![0, 0] : Fin 2 → Nat) = fun _ => 0 := by decide

end Cert.KernelIdeal.Hand

end
-- ==== Proof.KKit.lean ====
/-
  The three kernel regions' common part: a region's proof data from the buffers' contents it is entered at, and the
  region's record, whose state after it says of each output array what the region may have left there.
-/
module

public import proofs.«01_k».proof.Proof.KBase

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (RDat WinFacts PreFacts unscopedRest unscopedRestP prefHeld arrRef pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The contents of every buffer of every core. -/
abbrev Vals (F : FTy → Type) : Type := (c : Dev nD) → (b : Ref sig .tc) → Buf (Elt F) ((c : Thread nD τ).loc b)

/-- The tables' contents the regions run at. -/
abbrev Tabs (F : FTy → Type) [FloatOps F] : Type := (p : Fin 3) → (pcfgs (F := F) p).Adm

/-- What a fetch at point `t` leaves in window `w`'s staging buffer: the array's block, over `d` outside the array. -/
abbrev fet (a : Tabs F) (V : Vals F) (p : Fin 3) (c : Dev nD) (w : Fin (pin (pcfgs (F := F)) a p).W)
    (t : Fin (pin (pcfgs (F := F)) a p).N) (d : ((pin (pcfgs (F := F)) a p).win w).block.Idx → Elt F ((pin (pcfgs (F := F)) a p).win w).elt) :
    ((pin (pcfgs (F := F)) a p).win w).block.Idx → Elt F ((pin (pcfgs (F := F)) a p).win w).elt :=
  ((pin (pcfgs (F := F)) a p).win w).fill ((pin (pcfgs (F := F)) a p).grid.coords t) d
    ((((pin (pcfgs (F := F)) a p).win w).blk t).view.read (Elt F) (V c (arrRef (pin (pcfgs (F := F)) a p).spec w)))

/-- What the bodies of the three regions may leave, as relations from the contents entered at. -/
abbrev Afters (a : Tabs F) : Type := (p : Fin 3) → (c : Dev nD) → (w : Fin (pin (pcfgs (F := F)) a p).W) → Fin (pin (pcfgs (F := F)) a p).N →
  (Y X : ((pin (pcfgs (F := F)) a p).win w).block.Idx → Elt F ((pin (pcfgs (F := F)) a p).win w).elt) → Prop

/-- The proof data of the regions entered at contents `V`: the arrays at `V`, the tables and the buffers no window
    stages kept through, nothing owed. -/
def rds (a : Tabs F) (V : Vals F) (after : Afters a) (p : Fin 3) (c : Dev nD) : RDat τ (Elt F) Unit ℕ UU ℕ (pin (pcfgs (F := F)) a p) c where
  A w := V c (arrRef (pin (pcfgs (F := F)) a p).spec w)
  after w t Y X := after p c w t Y X
  Φ _ := iprop(prefHeld (pcfgs (F := F) p).pre c (fun _ => fullShare) (a p).1 ∗ Pipeline.scopedRest (pin (pcfgs (F := F)) a p).spec c)
  q _ := fullShare
  owed _ := 0

/-- A function over distinct places of a family, given there, elsewhere as another. -/
theorem exists_glue {I J : Type} {X : J → Type} (f : I → J) (hf : Function.Injective f) (G : (i : I) → X (f i)) (D : (j : J) → X j) :
    ∃ Y : (j : J) → X j, (∀ i, Y (f i) = G i) ∧ ∀ j, (∀ i, j ≠ f i) → Y j = D j := by
  classical
  refine ⟨fun j => if h : ∃ i, f i = j then h.choose_spec ▸ G h.choose else D j, fun i => ?_, fun j hj => ?_⟩
  · have h : ∃ i', f i' = f i := ⟨i, rfl⟩
    show (if h : ∃ i', f i' = f i then h.choose_spec ▸ G h.choose else D (f i)) = G i
    rw [dif_pos h]
    have key : ∀ (i' : I) (e : f i' = f i), e ▸ G i' = G i := by
      intro i' e
      obtain rfl := hf e
      rfl
    exact key _ h.choose_spec
  · show (if h : ∃ i, f i = j then h.choose_spec ▸ G h.choose else D j) = D j
    rw [dif_neg]
    rintro ⟨i, hi⟩
    exact hj i hi.symm

/-- `V'` is what region `p` may leave of `V` on core `c`: each output array at contents its write-backs may leave, every
    other buffer as it was. -/
def Next (a : Tabs F) (V : Vals F) (after : Afters a) (p : Fin 3) (c : Dev nD)
    (V' : (b : Ref sig .tc) → Buf (Elt F) ((c : Thread nD τ).loc b)) : Prop :=
  (∀ w, (rds a V after p c).ArrAt w (pin (pcfgs (F := F)) a p).N (V' (arrRef (pin (pcfgs (F := F)) a p).spec w)))
    ∧ ∀ b, (∀ w, ((pin (pcfgs (F := F)) a p).spec w).isOut = true → b ≠ arrRef (pin (pcfgs (F := F)) a p).spec w) → V' b = V c b

theorem arrays_leave (a : Tabs F) (V : Vals F) (after : Afters a) (p : Fin 3) (c : Dev nD)
    (hw : WinFacts (pin (pcfgs (F := F)) a p).spec) (harr : ∀ w, ((pin (pcfgs (F := F)) a p).spec w).arr.IsWhole) :
    iprop((rds a V after p c).arraysAt (pin (pcfgs (F := F)) a p).N ∗ unscopedRest (Ix := Unit) (Name := ℕ) (U := UU) (Lvl := ℕ) (pin (pcfgs (F := F)) a p).spec c (V c))
      ⊢ (iprop(∃ V' : (b : Ref sig .tc) → Buf (Elt F) ((c : Thread nD τ).loc b), ⌜Next a V after p c V'⌝ ∗ unscopedBufs c V') : sProp 𝕄) := by
  rw [RDat.arraysAt_eq (pcfgs (F := F)) a (rds a V after) p c harr ((rds a V after p c).share_full fun _ => rfl)]
  iintro ⟨Ha, Hr⟩
  ihave Ha := (bigSep_exists_pi (Finset.univ : Finset (Fin (pin (pcfgs (F := F)) a p).W)) _) $$ Ha
  icases Ha with ⟨%G, Ha⟩
  ihave Ha := (bigSep_pure_sep (Finset.univ : Finset (Fin (pin (pcfgs (F := F)) a p).W)) _ _) $$ Ha
  icases Ha with ⟨%hG, Ha⟩
  obtain ⟨V', hV', hne⟩ := exists_glue (arrRef (pin (pcfgs (F := F)) a p).spec) hw.arr_inj G (V c)
  iexists V'
  isplitr
  · ipureintro
    refine ⟨fun w => by rw [hV' w]; exact hG w (Finset.mem_univ _), fun b hb => ?_⟩
    by_cases hin : ∃ w, b = arrRef (pin (pcfgs (F := F)) a p).spec w
    · obtain ⟨w, rfl⟩ := hin
      have hio : ((pin (pcfgs (F := F)) a p).win w).isOut = false := by
        cases h : ((pin (pcfgs (F := F)) a p).win w).isOut with
        | false => rfl
        | true => exact absurd rfl (hb w h)
      have h := hG w (Finset.mem_univ _)
      rw [RDat.ArrAt_in (rds a V after p c) w hio] at h
      rw [hV' w, h]; rfl
    · exact hne b fun w e => hin ⟨w, e⟩
  · rw [Pipeline.unscopedBufs_split (pin (pcfgs (F := F)) a) p hw.arr_unscoped hw.arr_inj c V']
    isplitl [Ha]
    · iapply (Entails.of_eq (bigSep_congr fun w _ => by rw [hV' w])) $$ Ha
    · unfold unscopedRest
      iapply (Entails.of_eq (bigSep_congr fun b hb => by
        rw [hne b fun w e => (Finset.mem_sdiff.mp hb).2 (e ▸ Finset.mem_image.mpr ⟨w, Finset.mem_univ _, rfl⟩)])) $$ Hr

/-- The record of region `p` entered at contents `V`, from its body's obligation: before it the buffers at `V`, the
    tables at the contents the region runs at; after it the buffers at contents it may leave. -/
def regionOf (a : Tabs F) (V : Vals F) (after : Afters a) (p : Fin 3) (hl : Pipeline.PLaunchFacts (nD := nD) (τ := τ) (pcfgs (F := F)) p)
    (hbody : ∀ c, (rds a V after p c).BodyObligation (defs₀ (F := F)) 𝒱₀ () Set.univ) :
    RDat.RegionSeg (pcfgs (F := F)) a (rds a V after) () (defs₀ (F := F)) 𝒱₀ L lv p where
  win := hl.win.to₀
  block_pos := hl.block_pos
  stage_whole := hl.stage_whole
  K := PEmpty
  osem k := k.elim
  ho := Pipeline.OwnSemFacts.none _
  hbody := hbody
  hwaits := Pipeline.RDat.hwaits_of_owed_zero _ _ _ _ L lv p fun _ _ => rfl
  pre c := iprop(⌜(fun k => V c ((pcfgs (F := F) p).pre.ref k)) = (a p).1⌝ ∗ unscopedBufs c (V c) ∗ ∃ W, owes (c : Thread nD τ) (0 : CellTallies nD τ sig Unit) W)
  post c := iprop((∃ V' : (b : Ref sig .tc) → Buf (Elt F) ((c : Thread nD τ).loc b), ⌜Next a V after p c V'⌝ ∗ unscopedBufs c V')
    ∗ ∃ W, owes (c : Thread nD τ) (0 : CellTallies nD τ sig Unit) W)
  X _ := BI.emp
  Y c := prefHeld (pcfgs (F := F) p).pre c (fun _ => fullShare) (a p).1
  Z c := iprop(⌜(fun k => V c ((pcfgs (F := F) p).pre.ref k)) = (a p).1⌝
    ∗ unscopedRestP (Ix := Unit) (Name := ℕ) (U := UU) (Lvl := ℕ) (pcfgs (F := F) p).pre (pcfgs (F := F) p).spec c (V c))
  hentry c := by
    rw [Pipeline.ownSems0_none]
    have hsplit := RDat.arrays_of_unscopedBufs (pcfgs (F := F)) a (rds a V after) hl.win hl.arr_whole c
      ((rds a V after p c).share_full fun _ => rfl) (V c) fun _ => rfl
    rw [Pipeline.unscopedRest_split hl.pre] at hsplit
    iintro ⟨⟨%htab, Hub, HO⟩, -, -⟩
    ihave H := hsplit $$ Hub
    icases H with ⟨Ha, Htab, Hrest⟩
    imodintro
    isplitl [Ha]; · iexact Ha
    isplitl [Htab]; · rw [← htab]; iexact Htab
    isplitl [HO]
    · unfold Pipeline.RDat.owesAt Pipeline.owesWithin
      icases HO with ⟨%W, HO⟩; iexists W; isplitr; · ipureintro; exact fun _ _ => Or.inl trivial
      iexact HO
    isplitr; · iempintro
    isplitr; · ipureintro; exact htab
    iexact Hrest
  hin c := by
    show _ ⊢ iprop(prefHeld (pcfgs (F := F) p).pre c (fun _ => fullShare) (a p).1 ∗ Pipeline.scopedRest (pin (pcfgs (F := F)) a p).spec c)
    iintro ⟨-, Ht, Hr⟩
    isplitl [Ht]; · iexact Ht
    iexact Hr
  hout c := by
    rw [Pipeline.ownSems0_none]
    show iprop(prefHeld (pcfgs (F := F) p).pre c (fun _ => fullShare) (a p).1 ∗ Pipeline.scopedRest (pin (pcfgs (F := F)) a p).spec c) ⊢ _
    iintro ⟨Ht, Hr⟩
    isplitl [Ht]; · iexact Ht
    isplitr; · iempintro
    iexact Hr
  hexit c := by
    have hl' := arrays_leave a V after p c hl.win hl.arr_whole
    rw [Pipeline.unscopedRest_split hl.pre] at hl'
    iintro ⟨Ha, HO, Ht, %htab, Hrest⟩
    imodintro
    isplitl [Ha Ht Hrest]
    · iapply hl'
      isplitl [Ha]; · iexact Ha
      isplitl [Ht]
      · rw [htab]; iexact Ht
      iexact Hrest
    unfold Pipeline.RDat.owesAt Pipeline.owesWithin
    icases HO with ⟨%W, -, HO⟩; iexists W; iexact HO

theorem regionOf_pre (a : Tabs F) (V : Vals F) (after : Afters a) (p : Fin 3) (hl : Pipeline.PLaunchFacts (nD := nD) (τ := τ) (pcfgs (F := F)) p)
    (hbody : ∀ c, (rds a V after p c).BodyObligation (defs₀ (F := F)) 𝒱₀ () Set.univ) (c : Dev nD) :
    (regionOf a V after p hl hbody).pre c = iprop(⌜(fun k => V c ((pcfgs (F := F) p).pre.ref k)) = (a p).1⌝ ∗ unscopedBufs c (V c)
      ∗ ∃ W, owes (c : Thread nD τ) (0 : CellTallies nD τ sig Unit) W) := rfl

theorem regionOf_post (a : Tabs F) (V : Vals F) (after : Afters a) (p : Fin 3) (hl : Pipeline.PLaunchFacts (nD := nD) (τ := τ) (pcfgs (F := F)) p)
    (hbody : ∀ c, (rds a V after p c).BodyObligation (defs₀ (F := F)) 𝒱₀ () Set.univ) (c : Dev nD) :
    (regionOf a V after p hl hbody).post c = iprop((∃ V' : (b : Ref sig .tc) → Buf (Elt F) ((c : Thread nD τ).loc b), ⌜Next a V after p c V'⌝ ∗ unscopedBufs c V')
      ∗ ∃ W, owes (c : Thread nD τ) (0 : CellTallies nD τ sig Unit) W) := rfl

end Cert.KernelIdeal.Hand

end
-- ==== Proof.KBody0.lean ====
/-
  The first call's body, run once: the three counts, the strategies and the rounded activations.
-/
module

public import proofs.«01_k».proof.Proof.KBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Word `k` of a four-word table. -/
abbrev word4 (Z : S4.Idx → Elt F .i32) (k : Fin S4.rank → Nat) (inb : ∀ a, k a + S1.size a ≤ S4.size a) : S1.Idx → Elt F .i32 :=
  View.ld Z (Rect.unit (s := S4) k S1.size inb)

/-- How many rows take strategy 0, 1, 2: the three words the first call stores. -/
def cnt0 (A : S2048x16.Idx → Elt F .f32) : BitVec 32 := extractAt ![0, 0, 0] (k0_pay6 A) inpos_S1x1x1_p0_0_0
def cnt1 (A : S2048x16.Idx → Elt F .f32) : BitVec 32 := extractAt ![0, 0, 0] (k0_pay1 (k0_pay7 A)) inpos_S1x1x1_p0_0_0
def cnt2 (A : S2048x16.Idx → Elt F .f32) : BitVec 32 := extractAt ![0, 0, 0] (k0_pay2 (k0_pay3 A)) inpos_S1x1x1_p0_0_0

/-- The counts table after the first call: its first three words; the fourth is never written. -/
def CntOf (A : S2048x16.Idx → Elt F .f32) (Z : S4.Idx → Elt F .i32) : Prop :=
  word4 Z ![0] inb_S4_S1_0 = (fun _ => cnt0 A) ∧ word4 Z ![1] inb_S4_S1_1 = (fun _ => cnt1 A) ∧ word4 Z ![2] inb_S4_S1_2 = (fun _ => cnt2 A)

/-- One word's box of the four-word table. -/
abbrev box4 (k : Fin S4.rank → Nat) (inb : ∀ a, k a + S1.size a ≤ S4.size a) : Rect S4 := Rect.unit (s := S4) k S1.size inb

theorem box4_val (k : Fin S4.rank → Nat) (inb : ∀ a, k a + S1.size a ≤ S4.size a) (x : S1.Idx) :
    ((box4 k inb).emb x (0 : Fin 1)).val = k 0 := by
  have : (x 0).val < 1 := (x 0).isLt
  show k 0 + 1 * (x 0).val = k 0
  omega

/-- A store of a later word leaves an earlier word as it was. -/
theorem word_miss (v : View sig .tc .smem S4 .i32) (f : v.ty.Contents (Elt F)) (k l : Fin S4.rank → Nat) (ik il)
    (p : S1.Idx → Elt F .i32) (Ls : List (View.Piece (Elt F) S4 .i32)) (h : k 0 < l 0) (x : S1.Idx) :
    v.read (Elt F) (v.writes (Elt F) f (⟨box4 l il, p⟩ :: Ls)) ((box4 k ik).emb x)
      = v.read (Elt F) (v.writes (Elt F) f Ls) ((box4 k ik).emb x) :=
  View.read_writes_cons_miss_of_axis v f ⟨box4 l il, p⟩ Ls ((box4 k ik).emb x) (0 : Fin 1) (l 0) 1 rfl rfl rfl
    (.inl (by rw [box4_val]; exact h))

/-- Three stores of one word each leave their payloads in the first three words. -/
theorem words_of_writes (v : View sig .tc .smem S4 .i32) (f : v.ty.Contents (Elt F)) (p0 p1 p2 : S1.Idx → Elt F .i32)
    (Z : S4.Idx → Elt F .i32)
    (hZ : Z = v.read (Elt F) (v.writes (Elt F) f [⟨box4 ![2] inb_S4_S1_2, p2⟩, ⟨box4 ![1] inb_S4_S1_1, p1⟩, ⟨box4 ![0] inb_S4_S1_0, p0⟩])) :
    word4 Z ![0] inb_S4_S1_0 = p0 ∧ word4 Z ![1] inb_S4_S1_1 = p1 ∧ word4 Z ![2] inb_S4_S1_2 = p2 := by
  subst hZ
  refine ⟨funext fun x => ?_, funext fun x => ?_, funext fun x => ?_⟩
  · show v.read (Elt F) _ ((box4 ![0] inb_S4_S1_0).emb x) = p0 x
    rw [word_miss v f ![0] ![2] _ _ _ _ (by decide), word_miss v f ![0] ![1] _ _ _ _ (by decide), View.read_writes_cons_emb]
  · show v.read (Elt F) _ ((box4 ![1] inb_S4_S1_1).emb x) = p1 x
    rw [word_miss v f ![1] ![2] _ _ _ _ (by decide), View.read_writes_cons_emb]
  · show v.read (Elt F) _ ((box4 ![2] inb_S4_S1_2).emb x) = p2 x
    rw [View.read_writes_cons_emb]

theorem body0_run (c : Dev nD)
    (a0 : Memref sig .tc .vmem S2048x16 .f32) (h0 : a0.IsWhole) (a1 : Memref sig .tc .vmem S2048x768 .f32) (h1 : a1.IsWhole)
    (a2 : Memref sig .tc .smem S4 .i32) (h2 : a2.IsWhole) (a3 : Memref sig .tc .vmem S2048x128 .i32) (h3 : a3.IsWhole)
    (a4 : Memref sig .tc .vmem S2048x768 .bf16) (h4 : a4.IsWhole)
    (A : S2048x16.Idx → Elt F .f32) (X : S2048x768.Idx → Elt F .f32) (O2 : S4.Idx → Elt F .i32)
    (O3 : S2048x128.Idx → Elt F .i32) (O4 : S2048x768.Idx → Elt F .bf16) (E : Set ℕ) (Q : PUnit → sProp 𝕄) :
    iprop(owns (c : Thread nD τ) a0 fullShare A ∗ owns (c : Thread nD τ) a1 fullShare X ∗ owns (c : Thread nD τ) a2 fullShare O2
      ∗ owns (c : Thread nD τ) a3 fullShare O3 ∗ owns (c : Thread nD τ) a4 fullShare O4
      ∗ (iprop(owns (c : Thread nD τ) a0 fullShare A ∗ owns (c : Thread nD τ) a1 fullShare X
        ∗ (∃ Z, ⌜CntOf A Z⌝ ∗ owns (c : Thread nD τ) a2 fullShare Z)
        ∗ owns (c : Thread nD τ) a3 fullShare (k0_pay4 A) ∗ owns (c : Thread nD τ) a4 fullShare (k0_pay5 X)) -∗ Q ⟨⟩))
      ⊢ wp frame (wpE (defs₀ (F := F)) 𝒱₀ (c : Thread nD τ) none) E
          (cc0__strategy_body (F := F) a0 h0 a1 h1 a2 h2 a3 h3 a4 h4) Q := by
  rw [owns_eq_pt c a0 h0, owns_eq_pt c a1 h1, owns_eq_pt c a2 h2 O2, owns_eq_pt c a3 h3 O3, owns_eq_pt c a4 h4 O4]
  iintro ⟨H0, H1, H2, H3, H4, Hk⟩
  simp only [cc0__strategy_body_eq_skeleton]; unfold cc0__strategy_body_skel
  sl_exec
  sl_step
  iapply Hk
  isplitl [H0]; · iexact H0
  isplitl [H1]; · iexact H1
  isplitl [H2]
  · iexists _; isplitr
    rotate_left
    · iapply (pt_of_read c a2 h2 _ _ rfl) $$ H2
    ipureintro
    sl_unfold_words
    simp only [readAt_rep, View.ld_unit_zero (S := S2048x16) zero2]
    exact words_of_writes a2.view (a2.view.rep O2) (fun _ => cnt0 A) (fun _ => cnt1 A) (fun _ => cnt2 A) _ rfl
  isplitl [H3]
  · iapply (pt_of_read c a3 h3 _ _ ?_) $$ H3
    rw [readAt_rep_zero a0 A zero2]
    exact read_writes_zero a3 O3 _ zero2 _
  · iapply (pt_of_read c a4 h4 _ _ ?_) $$ H4
    rw [readAt_rep_zero a1 X zero2]
    exact read_writes_zero a4 O4 _ zero2 _

end Cert.KernelIdeal.Hand

end
-- ==== Proof.KBody1.lean ====
/-
  The second call's body, run once: what its two output blocks hold afterwards.
-/
module

public import proofs.«01_k».proof.Proof.KBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The second call's body from blocks `X`, `W1`, `B1`, `W2`, `B2`: the outputs hold the body's two payloads. -/
theorem body1_run (c : Dev nD) (i : grid1.Coords)
    (a1 : Memref sig .tc .vmem S2048x768 .f32) (h1 : a1.IsWhole) (a2 : Memref sig .tc .vmem S768x1024 .f32) (h2 : a2.IsWhole)
    (a3 : Memref sig .tc .vmem S1x1024 .f32) (h3 : a3.IsWhole) (a4 : Memref sig .tc .vmem S768x512 .f32) (h4 : a4.IsWhole)
    (a5 : Memref sig .tc .vmem S1x512 .f32) (h5 : a5.IsWhole) (a6 : Memref sig .tc .vmem S2048x1024 .bf16) (h6 : a6.IsWhole)
    (a7 : Memref sig .tc .vmem S2048x512 .bf16) (h7 : a7.IsWhole)
    (X : S2048x768.Idx → Elt F .f32) (W1 : S768x1024.Idx → Elt F .f32) (B1 : S1x1024.Idx → Elt F .f32)
    (W2 : S768x512.Idx → Elt F .f32) (B2 : S1x512.Idx → Elt F .f32) (O1 : S2048x1024.Idx → Elt F .bf16)
    (O2 : S2048x512.Idx → Elt F .bf16) (E : Set ℕ) (Q : PUnit → sProp 𝕄) :
    iprop(owns (c : Thread nD τ) a1 fullShare X ∗ owns (c : Thread nD τ) a2 fullShare W1 ∗ owns (c : Thread nD τ) a3 fullShare B1
      ∗ owns (c : Thread nD τ) a4 fullShare W2 ∗ owns (c : Thread nD τ) a5 fullShare B2 ∗ owns (c : Thread nD τ) a6 fullShare O1
      ∗ owns (c : Thread nD τ) a7 fullShare O2
      ∗ (iprop(owns (c : Thread nD τ) a1 fullShare X ∗ owns (c : Thread nD τ) a2 fullShare W1 ∗ owns (c : Thread nD τ) a3 fullShare B1
        ∗ owns (c : Thread nD τ) a4 fullShare W2 ∗ owns (c : Thread nD τ) a5 fullShare B2
        ∗ owns (c : Thread nD τ) a6 fullShare (k1_pay2 X W1 B1) ∗ owns (c : Thread nD τ) a7 fullShare (k1_pay3 X W2 B2)) -∗ Q ⟨⟩))
      ⊢ wp frame (wpE (defs₀ (F := F)) 𝒱₀ (c : Thread nD τ) none) E
          (cc1__stage1_body (F := F) i a1 h1 a2 h2 a3 h3 a4 h4 a5 h5 a6 h6 a7 h7) Q := by
  rw [owns_eq_pt c a1 h1, owns_eq_pt c a2 h2, owns_eq_pt c a3 h3, owns_eq_pt c a4 h4, owns_eq_pt c a5 h5, owns_eq_pt c a6 h6 O1,
    owns_eq_pt c a7 h7 O2]
  iintro ⟨H1, H2, H3, H4, H5, H6, H7, Hk⟩
  simp only [cc1__stage1_body_eq_skeleton]; unfold cc1__stage1_body_skel
  sl_exec
  sl_step
  iapply Hk
  isplitl [H1]; · iexact H1
  isplitl [H2]; · iexact H2
  isplitl [H3]; · iexact H3
  isplitl [H4]; · iexact H4
  isplitl [H5]; · iexact H5
  isplitl [H6]
  · iapply (pt_of_read c a6 h6 _ _ ?_) $$ H6
    rw [readAt_rep_zero a1 X zero2, readAt_rep_zero a2 W1 zero2, readAt_rep_zero a3 B1 zero2]
    exact read_writes_zero a6 O1 _ zero2 _
  · iapply (pt_of_read c a7 h7 _ _ ?_) $$ H7
    rw [readAt_rep_zero a1 X zero2, readAt_rep_zero a4 W2 zero2, readAt_rep_zero a5 B2 zero2]
    exact read_writes_zero a7 O2 _ zero2 _

end Cert.KernelIdeal.Hand

end
-- ==== Proof.KPart0.lean ====
/-
  The third call's body over the rows that take strategy 0, run once.
-/
module

public import proofs.«01_k».proof.Proof.KBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The eight row tiles the body stores for strategy 0, last first: each adds the tile's rows that take the strategy. -/
def tiles0 (S : S2048x128.Idx → Elt F .i32) (M : S2048x2000.Idx → Elt F .bf16) (W : S2000x256.Idx → Elt F .bf16) (B : S1x256.Idx → Elt F .f32)
    (O : S2048x256.Idx → Elt F .f32) : List (View.Piece (Elt F) S2048x256 .f32) :=
  [⟨Rect.unit (s := S2048x256) ![1792, 0] S256x256.size inb_S2048x256_S256x256_1792_0, k2_pay6 (View.ld S (Rect.unit (s := S2048x128) ![1792, 0] S256x128.size inb_S2048x128_S256x128_1792_0)) (View.ld M (Rect.unit (s := S2048x2000) ![1792, 0] S256x2000.size inb_S2048x2000_S256x2000_1792_0)) W B (View.ld O (Rect.unit (s := S2048x256) ![1792, 0] S256x256.size inb_S2048x256_S256x256_1792_0))⟩,
   ⟨Rect.unit (s := S2048x256) ![1536, 0] S256x256.size inb_S2048x256_S256x256_1536_0, k2_pay6 (View.ld S (Rect.unit (s := S2048x128) ![1536, 0] S256x128.size inb_S2048x128_S256x128_1536_0)) (View.ld M (Rect.unit (s := S2048x2000) ![1536, 0] S256x2000.size inb_S2048x2000_S256x2000_1536_0)) W B (View.ld O (Rect.unit (s := S2048x256) ![1536, 0] S256x256.size inb_S2048x256_S256x256_1536_0))⟩,
   ⟨Rect.unit (s := S2048x256) ![1280, 0] S256x256.size inb_S2048x256_S256x256_1280_0, k2_pay6 (View.ld S (Rect.unit (s := S2048x128) ![1280, 0] S256x128.size inb_S2048x128_S256x128_1280_0)) (View.ld M (Rect.unit (s := S2048x2000) ![1280, 0] S256x2000.size inb_S2048x2000_S256x2000_1280_0)) W B (View.ld O (Rect.unit (s := S2048x256) ![1280, 0] S256x256.size inb_S2048x256_S256x256_1280_0))⟩,
   ⟨Rect.unit (s := S2048x256) ![1024, 0] S256x256.size inb_S2048x256_S256x256_1024_0, k2_pay6 (View.ld S (Rect.unit (s := S2048x128) ![1024, 0] S256x128.size inb_S2048x128_S256x128_1024_0)) (View.ld M (Rect.unit (s := S2048x2000) ![1024, 0] S256x2000.size inb_S2048x2000_S256x2000_1024_0)) W B (View.ld O (Rect.unit (s := S2048x256) ![1024, 0] S256x256.size inb_S2048x256_S256x256_1024_0))⟩,
   ⟨Rect.unit (s := S2048x256) ![768, 0] S256x256.size inb_S2048x256_S256x256_768_0, k2_pay6 (View.ld S (Rect.unit (s := S2048x128) ![768, 0] S256x128.size inb_S2048x128_S256x128_768_0)) (View.ld M (Rect.unit (s := S2048x2000) ![768, 0] S256x2000.size inb_S2048x2000_S256x2000_768_0)) W B (View.ld O (Rect.unit (s := S2048x256) ![768, 0] S256x256.size inb_S2048x256_S256x256_768_0))⟩,
   ⟨Rect.unit (s := S2048x256) ![512, 0] S256x256.size inb_S2048x256_S256x256_512_0, k2_pay6 (View.ld S (Rect.unit (s := S2048x128) ![512, 0] S256x128.size inb_S2048x128_S256x128_512_0)) (View.ld M (Rect.unit (s := S2048x2000) ![512, 0] S256x2000.size inb_S2048x2000_S256x2000_512_0)) W B (View.ld O (Rect.unit (s := S2048x256) ![512, 0] S256x256.size inb_S2048x256_S256x256_512_0))⟩,
   ⟨Rect.unit (s := S2048x256) ![256, 0] S256x256.size inb_S2048x256_S256x256_256_0, k2_pay6 (View.ld S (Rect.unit (s := S2048x128) ![256, 0] S256x128.size inb_S2048x128_S256x128_256_0)) (View.ld M (Rect.unit (s := S2048x2000) ![256, 0] S256x2000.size inb_S2048x2000_S256x2000_256_0)) W B (View.ld O (Rect.unit (s := S2048x256) ![256, 0] S256x256.size inb_S2048x256_S256x256_256_0))⟩,
   ⟨Rect.unit (s := S2048x256) ![0, 0] S256x256.size inb_S2048x256_S256x256_0_0, k2_pay6 (View.ld S (Rect.unit (s := S2048x128) ![0, 0] S256x128.size inb_S2048x128_S256x128_0_0)) (View.ld M (Rect.unit (s := S2048x2000) ![0, 0] S256x2000.size inb_S2048x2000_S256x2000_0_0)) W B (View.ld O (Rect.unit (s := S2048x256) ![0, 0] S256x256.size inb_S2048x256_S256x256_0_0))⟩]

/-- What the output block holds after them. -/
def rows0 (S : S2048x128.Idx → Elt F .i32) (M : S2048x2000.Idx → Elt F .bf16) (W : S2000x256.Idx → Elt F .bf16) (B : S1x256.Idx → Elt F .f32)
    (O : S2048x256.Idx → Elt F .f32) : S2048x256.Idx → Elt F .f32 := View.canon (tiles0 S M W B O)

theorem part0_run (c : Dev nD) (i : grid2.Coords) (a1 : Memref sig .tc .smem S3 .i32) (h1 : a1.IsWhole) (a2 : Memref sig .tc .vmem S2048x128 .i32) (h2 : a2.IsWhole) (a3 : Memref sig .tc .vmem S2048x768 .bf16) (h3 : a3.IsWhole) (a4 : Memref sig .tc .vmem S2048x4000 .bf16) (h4 : a4.IsWhole) (a5 : Memref sig .tc .vmem S2048x2000 .bf16) (h5 : a5.IsWhole) (a6 : Memref sig .tc .vmem S768x256 .f32) (h6 : a6.IsWhole) (a7 : Memref sig .tc .vmem S4000x256 .f32) (h7 : a7.IsWhole) (a8 : Memref sig .tc .vmem S1x256 .f32) (h8 : a8.IsWhole) (a9 : Memref sig .tc .vmem S2000x256 .f32) (h9 : a9.IsWhole) (a10 : Memref sig .tc .vmem S1x256 .f32) (h10 : a10.IsWhole) (a11 : Memref sig .tc .vmem S2048x256 .f32) (h11 : a11.IsWhole) (a12 : Memref sig .tc .vmem S768x256 .bf16) (h12 : a12.IsWhole) (a13 : Memref sig .tc .vmem S4000x256 .bf16) (h13 : a13.IsWhole) (a14 : Memref sig .tc .vmem S2000x256 .bf16) (h14 : a14.IsWhole)
    (S : S2048x128.Idx → Elt F .i32) (M : S2048x2000.Idx → Elt F .bf16) (W : S2000x256.Idx → Elt F .bf16) (B : S1x256.Idx → Elt F .f32)
    (O : S2048x256.Idx → Elt F .f32) (E : Set ℕ) (Q : PUnit → sProp 𝕄) :
    iprop(owns (c : Thread nD τ) a2 fullShare S ∗ owns (c : Thread nD τ) a5 fullShare M ∗ owns (c : Thread nD τ) a14 fullShare W ∗ owns (c : Thread nD τ) a10 fullShare B
      ∗ owns (c : Thread nD τ) a11 fullShare O
      ∗ (iprop(owns (c : Thread nD τ) a2 fullShare S ∗ owns (c : Thread nD τ) a5 fullShare M ∗ owns (c : Thread nD τ) a14 fullShare W ∗ owns (c : Thread nD τ) a10 fullShare B
        ∗ owns (c : Thread nD τ) a11 fullShare (rows0 S M W B O)) -∗ Q ⟨⟩))
      ⊢ wp frame (wpE (defs₀ (F := F)) 𝒱₀ (c : Thread nD τ) none) E
          (k2_part5 (F := F) i a1 h1 a2 h2 a3 h3 a4 h4 a5 h5 a6 h6 a7 h7 a8 h8 a9 h9 a10 h10 a11 h11 a12 h12 a13 h13 a14 h14) Q := by
  rw [owns_eq_pt c a2 h2, owns_eq_pt c a5 h5, owns_eq_pt c a14 h14, owns_eq_pt c a10 h10, owns_eq_pt c a11 h11 O]
  iintro ⟨H2, HM, HW, HB, HO, Hk⟩
  simp only [k2_part5_eq_skeleton]; unfold k2_part5_skel
  sl_exec
  sl_step
  iapply Hk
  isplitl [H2]; · iexact H2
  isplitl [HM]; · iexact HM
  isplitl [HW]; · iexact HW
  isplitl [HB]; · iexact HB
  iapply (pt_of_read c a11 h11 _ _ ?_) $$ HO
  sl_unfold_words
  simp only [readAt_rep, View.ld_unit_zero (S := S2000x256) zero2, View.ld_unit_zero (S := S1x256) zero2]
  exact (View.read_writes_eq_canon _ _ _ (View.cover_of_tiled _ ![256, 256] rfl)).trans rfl

end Cert.KernelIdeal.Hand

end
-- ==== Proof.KPart1.lean ====
/-
  The third call's body over the rows that take strategy 1, run once.
-/
module

public import proofs.«01_k».proof.Proof.KBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The eight row tiles the body stores for strategy 1, last first: each adds the tile's rows that take the strategy. -/
def tiles1 (S : S2048x128.Idx → Elt F .i32) (M : S2048x4000.Idx → Elt F .bf16) (W : S4000x256.Idx → Elt F .bf16) (B : S1x256.Idx → Elt F .f32)
    (O : S2048x256.Idx → Elt F .f32) : List (View.Piece (Elt F) S2048x256 .f32) :=
  [⟨Rect.unit (s := S2048x256) ![1792, 0] S256x256.size inb_S2048x256_S256x256_1792_0, k2_pay23 (View.ld S (Rect.unit (s := S2048x128) ![1792, 0] S256x128.size inb_S2048x128_S256x128_1792_0)) (View.ld M (Rect.unit (s := S2048x4000) ![1792, 0] S256x4000.size inb_S2048x4000_S256x4000_1792_0)) W B (View.ld O (Rect.unit (s := S2048x256) ![1792, 0] S256x256.size inb_S2048x256_S256x256_1792_0))⟩,
   ⟨Rect.unit (s := S2048x256) ![1536, 0] S256x256.size inb_S2048x256_S256x256_1536_0, k2_pay23 (View.ld S (Rect.unit (s := S2048x128) ![1536, 0] S256x128.size inb_S2048x128_S256x128_1536_0)) (View.ld M (Rect.unit (s := S2048x4000) ![1536, 0] S256x4000.size inb_S2048x4000_S256x4000_1536_0)) W B (View.ld O (Rect.unit (s := S2048x256) ![1536, 0] S256x256.size inb_S2048x256_S256x256_1536_0))⟩,
   ⟨Rect.unit (s := S2048x256) ![1280, 0] S256x256.size inb_S2048x256_S256x256_1280_0, k2_pay23 (View.ld S (Rect.unit (s := S2048x128) ![1280, 0] S256x128.size inb_S2048x128_S256x128_1280_0)) (View.ld M (Rect.unit (s := S2048x4000) ![1280, 0] S256x4000.size inb_S2048x4000_S256x4000_1280_0)) W B (View.ld O (Rect.unit (s := S2048x256) ![1280, 0] S256x256.size inb_S2048x256_S256x256_1280_0))⟩,
   ⟨Rect.unit (s := S2048x256) ![1024, 0] S256x256.size inb_S2048x256_S256x256_1024_0, k2_pay23 (View.ld S (Rect.unit (s := S2048x128) ![1024, 0] S256x128.size inb_S2048x128_S256x128_1024_0)) (View.ld M (Rect.unit (s := S2048x4000) ![1024, 0] S256x4000.size inb_S2048x4000_S256x4000_1024_0)) W B (View.ld O (Rect.unit (s := S2048x256) ![1024, 0] S256x256.size inb_S2048x256_S256x256_1024_0))⟩,
   ⟨Rect.unit (s := S2048x256) ![768, 0] S256x256.size inb_S2048x256_S256x256_768_0, k2_pay23 (View.ld S (Rect.unit (s := S2048x128) ![768, 0] S256x128.size inb_S2048x128_S256x128_768_0)) (View.ld M (Rect.unit (s := S2048x4000) ![768, 0] S256x4000.size inb_S2048x4000_S256x4000_768_0)) W B (View.ld O (Rect.unit (s := S2048x256) ![768, 0] S256x256.size inb_S2048x256_S256x256_768_0))⟩,
   ⟨Rect.unit (s := S2048x256) ![512, 0] S256x256.size inb_S2048x256_S256x256_512_0, k2_pay23 (View.ld S (Rect.unit (s := S2048x128) ![512, 0] S256x128.size inb_S2048x128_S256x128_512_0)) (View.ld M (Rect.unit (s := S2048x4000) ![512, 0] S256x4000.size inb_S2048x4000_S256x4000_512_0)) W B (View.ld O (Rect.unit (s := S2048x256) ![512, 0] S256x256.size inb_S2048x256_S256x256_512_0))⟩,
   ⟨Rect.unit (s := S2048x256) ![256, 0] S256x256.size inb_S2048x256_S256x256_256_0, k2_pay23 (View.ld S (Rect.unit (s := S2048x128) ![256, 0] S256x128.size inb_S2048x128_S256x128_256_0)) (View.ld M (Rect.unit (s := S2048x4000) ![256, 0] S256x4000.size inb_S2048x4000_S256x4000_256_0)) W B (View.ld O (Rect.unit (s := S2048x256) ![256, 0] S256x256.size inb_S2048x256_S256x256_256_0))⟩,
   ⟨Rect.unit (s := S2048x256) ![0, 0] S256x256.size inb_S2048x256_S256x256_0_0, k2_pay23 (View.ld S (Rect.unit (s := S2048x128) ![0, 0] S256x128.size inb_S2048x128_S256x128_0_0)) (View.ld M (Rect.unit (s := S2048x4000) ![0, 0] S256x4000.size inb_S2048x4000_S256x4000_0_0)) W B (View.ld O (Rect.unit (s := S2048x256) ![0, 0] S256x256.size inb_S2048x256_S256x256_0_0))⟩]

/-- What the output block holds after them. -/
def rows1 (S : S2048x128.Idx → Elt F .i32) (M : S2048x4000.Idx → Elt F .bf16) (W : S4000x256.Idx → Elt F .bf16) (B : S1x256.Idx → Elt F .f32)
    (O : S2048x256.Idx → Elt F .f32) : S2048x256.Idx → Elt F .f32 := View.canon (tiles1 S M W B O)

theorem part1_run (c : Dev nD) (i : grid2.Coords) (a1 : Memref sig .tc .smem S3 .i32) (h1 : a1.IsWhole) (a2 : Memref sig .tc .vmem S2048x128 .i32) (h2 : a2.IsWhole) (a3 : Memref sig .tc .vmem S2048x768 .bf16) (h3 : a3.IsWhole) (a4 : Memref sig .tc .vmem S2048x4000 .bf16) (h4 : a4.IsWhole) (a5 : Memref sig .tc .vmem S2048x2000 .bf16) (h5 : a5.IsWhole) (a6 : Memref sig .tc .vmem S768x256 .f32) (h6 : a6.IsWhole) (a7 : Memref sig .tc .vmem S4000x256 .f32) (h7 : a7.IsWhole) (a8 : Memref sig .tc .vmem S1x256 .f32) (h8 : a8.IsWhole) (a9 : Memref sig .tc .vmem S2000x256 .f32) (h9 : a9.IsWhole) (a10 : Memref sig .tc .vmem S1x256 .f32) (h10 : a10.IsWhole) (a11 : Memref sig .tc .vmem S2048x256 .f32) (h11 : a11.IsWhole) (a12 : Memref sig .tc .vmem S768x256 .bf16) (h12 : a12.IsWhole) (a13 : Memref sig .tc .vmem S4000x256 .bf16) (h13 : a13.IsWhole) (a14 : Memref sig .tc .vmem S2000x256 .bf16) (h14 : a14.IsWhole)
    (S : S2048x128.Idx → Elt F .i32) (M : S2048x4000.Idx → Elt F .bf16) (W : S4000x256.Idx → Elt F .bf16) (B : S1x256.Idx → Elt F .f32)
    (O : S2048x256.Idx → Elt F .f32) (E : Set ℕ) (Q : PUnit → sProp 𝕄) :
    iprop(owns (c : Thread nD τ) a2 fullShare S ∗ owns (c : Thread nD τ) a4 fullShare M ∗ owns (c : Thread nD τ) a13 fullShare W ∗ owns (c : Thread nD τ) a8 fullShare B
      ∗ owns (c : Thread nD τ) a11 fullShare O
      ∗ (iprop(owns (c : Thread nD τ) a2 fullShare S ∗ owns (c : Thread nD τ) a4 fullShare M ∗ owns (c : Thread nD τ) a13 fullShare W ∗ owns (c : Thread nD τ) a8 fullShare B
        ∗ owns (c : Thread nD τ) a11 fullShare (rows1 S M W B O)) -∗ Q ⟨⟩))
      ⊢ wp frame (wpE (defs₀ (F := F)) 𝒱₀ (c : Thread nD τ) none) E
          (k2_part10 (F := F) i a1 h1 a2 h2 a3 h3 a4 h4 a5 h5 a6 h6 a7 h7 a8 h8 a9 h9 a10 h10 a11 h11 a12 h12 a13 h13 a14 h14) Q := by
  rw [owns_eq_pt c a2 h2, owns_eq_pt c a4 h4, owns_eq_pt c a13 h13, owns_eq_pt c a8 h8, owns_eq_pt c a11 h11 O]
  iintro ⟨H2, HM, HW, HB, HO, Hk⟩
  simp only [k2_part10_eq_skeleton]; unfold k2_part10_skel
  sl_exec
  sl_step
  iapply Hk
  isplitl [H2]; · iexact H2
  isplitl [HM]; · iexact HM
  isplitl [HW]; · iexact HW
  isplitl [HB]; · iexact HB
  iapply (pt_of_read c a11 h11 _ _ ?_) $$ HO
  sl_unfold_words
  simp only [readAt_rep, View.ld_unit_zero (S := S4000x256) zero2, View.ld_unit_zero (S := S1x256) zero2]
  exact (View.read_writes_eq_canon _ _ _ (View.cover_of_tiled _ ![256, 256] rfl)).trans rfl

end Cert.KernelIdeal.Hand

end
-- ==== Proof.KPart2.lean ====
/-
  The third call's body over the rows that take strategy 2, run once.
-/
module

public import proofs.«01_k».proof.Proof.KBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The eight row tiles the body stores for strategy 2, last first: each adds the tile's rows that take the strategy. -/
def tiles2 (S : S2048x128.Idx → Elt F .i32) (M : S2048x768.Idx → Elt F .bf16) (W : S768x256.Idx → Elt F .bf16)
    (O : S2048x256.Idx → Elt F .f32) : List (View.Piece (Elt F) S2048x256 .f32) :=
  [⟨Rect.unit (s := S2048x256) ![1792, 0] S256x256.size inb_S2048x256_S256x256_1792_0, k2_pay40 (View.ld S (Rect.unit (s := S2048x128) ![1792, 0] S256x128.size inb_S2048x128_S256x128_1792_0)) (View.ld M (Rect.unit (s := S2048x768) ![1792, 0] S256x768.size inb_S2048x768_S256x768_1792_0)) W (View.ld O (Rect.unit (s := S2048x256) ![1792, 0] S256x256.size inb_S2048x256_S256x256_1792_0))⟩,
   ⟨Rect.unit (s := S2048x256) ![1536, 0] S256x256.size inb_S2048x256_S256x256_1536_0, k2_pay40 (View.ld S (Rect.unit (s := S2048x128) ![1536, 0] S256x128.size inb_S2048x128_S256x128_1536_0)) (View.ld M (Rect.unit (s := S2048x768) ![1536, 0] S256x768.size inb_S2048x768_S256x768_1536_0)) W (View.ld O (Rect.unit (s := S2048x256) ![1536, 0] S256x256.size inb_S2048x256_S256x256_1536_0))⟩,
   ⟨Rect.unit (s := S2048x256) ![1280, 0] S256x256.size inb_S2048x256_S256x256_1280_0, k2_pay40 (View.ld S (Rect.unit (s := S2048x128) ![1280, 0] S256x128.size inb_S2048x128_S256x128_1280_0)) (View.ld M (Rect.unit (s := S2048x768) ![1280, 0] S256x768.size inb_S2048x768_S256x768_1280_0)) W (View.ld O (Rect.unit (s := S2048x256) ![1280, 0] S256x256.size inb_S2048x256_S256x256_1280_0))⟩,
   ⟨Rect.unit (s := S2048x256) ![1024, 0] S256x256.size inb_S2048x256_S256x256_1024_0, k2_pay40 (View.ld S (Rect.unit (s := S2048x128) ![1024, 0] S256x128.size inb_S2048x128_S256x128_1024_0)) (View.ld M (Rect.unit (s := S2048x768) ![1024, 0] S256x768.size inb_S2048x768_S256x768_1024_0)) W (View.ld O (Rect.unit (s := S2048x256) ![1024, 0] S256x256.size inb_S2048x256_S256x256_1024_0))⟩,
   ⟨Rect.unit (s := S2048x256) ![768, 0] S256x256.size inb_S2048x256_S256x256_768_0, k2_pay40 (View.ld S (Rect.unit (s := S2048x128) ![768, 0] S256x128.size inb_S2048x128_S256x128_768_0)) (View.ld M (Rect.unit (s := S2048x768) ![768, 0] S256x768.size inb_S2048x768_S256x768_768_0)) W (View.ld O (Rect.unit (s := S2048x256) ![768, 0] S256x256.size inb_S2048x256_S256x256_768_0))⟩,
   ⟨Rect.unit (s := S2048x256) ![512, 0] S256x256.size inb_S2048x256_S256x256_512_0, k2_pay40 (View.ld S (Rect.unit (s := S2048x128) ![512, 0] S256x128.size inb_S2048x128_S256x128_512_0)) (View.ld M (Rect.unit (s := S2048x768) ![512, 0] S256x768.size inb_S2048x768_S256x768_512_0)) W (View.ld O (Rect.unit (s := S2048x256) ![512, 0] S256x256.size inb_S2048x256_S256x256_512_0))⟩,
   ⟨Rect.unit (s := S2048x256) ![256, 0] S256x256.size inb_S2048x256_S256x256_256_0, k2_pay40 (View.ld S (Rect.unit (s := S2048x128) ![256, 0] S256x128.size inb_S2048x128_S256x128_256_0)) (View.ld M (Rect.unit (s := S2048x768) ![256, 0] S256x768.size inb_S2048x768_S256x768_256_0)) W (View.ld O (Rect.unit (s := S2048x256) ![256, 0] S256x256.size inb_S2048x256_S256x256_256_0))⟩,
   ⟨Rect.unit (s := S2048x256) ![0, 0] S256x256.size inb_S2048x256_S256x256_0_0, k2_pay40 (View.ld S (Rect.unit (s := S2048x128) ![0, 0] S256x128.size inb_S2048x128_S256x128_0_0)) (View.ld M (Rect.unit (s := S2048x768) ![0, 0] S256x768.size inb_S2048x768_S256x768_0_0)) W (View.ld O (Rect.unit (s := S2048x256) ![0, 0] S256x256.size inb_S2048x256_S256x256_0_0))⟩]

/-- What the output block holds after them. -/
def rows2 (S : S2048x128.Idx → Elt F .i32) (M : S2048x768.Idx → Elt F .bf16) (W : S768x256.Idx → Elt F .bf16)
    (O : S2048x256.Idx → Elt F .f32) : S2048x256.Idx → Elt F .f32 := View.canon (tiles2 S M W O)

/-- The body's stretch for strategy 2: its four printed parts, then the last tile's load and store. -/
def chunk2 (i : grid2.Coords) (a1 : Memref sig .tc .smem S3 .i32) (h1 : a1.IsWhole) (a2 : Memref sig .tc .vmem S2048x128 .i32) (h2 : a2.IsWhole) (a3 : Memref sig .tc .vmem S2048x768 .bf16) (h3 : a3.IsWhole) (a4 : Memref sig .tc .vmem S2048x4000 .bf16) (h4 : a4.IsWhole) (a5 : Memref sig .tc .vmem S2048x2000 .bf16) (h5 : a5.IsWhole) (a6 : Memref sig .tc .vmem S768x256 .f32) (h6 : a6.IsWhole) (a7 : Memref sig .tc .vmem S4000x256 .f32) (h7 : a7.IsWhole) (a8 : Memref sig .tc .vmem S1x256 .f32) (h8 : a8.IsWhole) (a9 : Memref sig .tc .vmem S2000x256 .f32) (h9 : a9.IsWhole) (a10 : Memref sig .tc .vmem S1x256 .f32) (h10 : a10.IsWhole) (a11 : Memref sig .tc .vmem S2048x256 .f32) (h11 : a11.IsWhole) (a12 : Memref sig .tc .vmem S768x256 .bf16) (h12 : a12.IsWhole) (a13 : Memref sig .tc .vmem S4000x256 .bf16) (h13 : a13.IsWhole) (a14 : Memref sig .tc .vmem S2000x256 .bf16) (h14 : a14.IsWhole) :
    Prog (TpuEff nD τ sig (Elt F) Λ₀ .tc) PUnit := do
  let v55 : FVec F S256x256 .f32 ← k2_part11 i a1 h1 a2 h2 a3 h3 a4 h4 a5 h5 a6 h6 a7 h7 a8 h8 a9 h9 a10 h10 a11 h11 a12 h12 a13 h13 a14 h14
  let v89 : FVec F S256x256 .f32 ← k2_part12 i a1 h1 a2 h2 a3 h3 a4 h4 a5 h5 a6 h6 a7 h7 a8 h8 a9 h9 a10 h10 a11 h11 a12 h12 a13 h13 a14 h14 v55
  let ⟨v114, v116, v120, v121⟩ : Σ' (v114 : FVec F S256x256 .f32) (v116 : FVec F S256x256 .f32) (v120 : IVec S256x256 1), FVec F S256x256 .f32 ← k2_part13 i a1 h1 a2 h2 a3 h3 a4 h4 a5 h5 a6 h6 a7 h7 a8 h8 a9 h9 a10 h10 a11 h11 a12 h12 a13 h13 a14 h14 v89
  let ⟨v148, v150, cst_106, v153⟩ : Σ' (v148 : FVec F S256x256 .f32) (v150 : FVec F S256x256 .f32) (cst_106 : F .f32), IVec S256x1 1 ← k2_part14 i a1 h1 a2 h2 a3 h3 a4 h4 a5 h5 a6 h6 a7 h7 a8 h8 a9 h9 a10 h10 a11 h11 a12 h12 a13 h13 a14 h14 v114 v116 v120 v121
  let v158 : Vec F S256x256 .f32 ← Prog.lift (.load a11 (Rect.unit (s := S2048x256) ![1792, 0] S256x256.size inb_S2048x256_S256x256_1792_0).toLoadRect (View.loadsAt_vmem h_S256x256))
  Prog.lift (.store a11 (Rect.unit (s := S2048x256) ![1792, 0] S256x256.size inb_S2048x256_S256x256_1792_0) (k2_pay5 v148 v150 cst_106 v153) Finset.univ (View.stores_vmem_bits_univ h_S256x256 rfl) (.inl rfl))
  pure ⟨⟩
theorem part2_run (c : Dev nD) (i : grid2.Coords) (a1 : Memref sig .tc .smem S3 .i32) (h1 : a1.IsWhole) (a2 : Memref sig .tc .vmem S2048x128 .i32) (h2 : a2.IsWhole) (a3 : Memref sig .tc .vmem S2048x768 .bf16) (h3 : a3.IsWhole) (a4 : Memref sig .tc .vmem S2048x4000 .bf16) (h4 : a4.IsWhole) (a5 : Memref sig .tc .vmem S2048x2000 .bf16) (h5 : a5.IsWhole) (a6 : Memref sig .tc .vmem S768x256 .f32) (h6 : a6.IsWhole) (a7 : Memref sig .tc .vmem S4000x256 .f32) (h7 : a7.IsWhole) (a8 : Memref sig .tc .vmem S1x256 .f32) (h8 : a8.IsWhole) (a9 : Memref sig .tc .vmem S2000x256 .f32) (h9 : a9.IsWhole) (a10 : Memref sig .tc .vmem S1x256 .f32) (h10 : a10.IsWhole) (a11 : Memref sig .tc .vmem S2048x256 .f32) (h11 : a11.IsWhole) (a12 : Memref sig .tc .vmem S768x256 .bf16) (h12 : a12.IsWhole) (a13 : Memref sig .tc .vmem S4000x256 .bf16) (h13 : a13.IsWhole) (a14 : Memref sig .tc .vmem S2000x256 .bf16) (h14 : a14.IsWhole)
    (S : S2048x128.Idx → Elt F .i32) (M : S2048x768.Idx → Elt F .bf16) (W : S768x256.Idx → Elt F .bf16)
    (O : S2048x256.Idx → Elt F .f32) (E : Set ℕ) (Q : PUnit → sProp 𝕄) :
    iprop(owns (c : Thread nD τ) a2 fullShare S ∗ owns (c : Thread nD τ) a3 fullShare M ∗ owns (c : Thread nD τ) a12 fullShare W
      ∗ owns (c : Thread nD τ) a11 fullShare O
      ∗ (iprop(owns (c : Thread nD τ) a2 fullShare S ∗ owns (c : Thread nD τ) a3 fullShare M ∗ owns (c : Thread nD τ) a12 fullShare W
        ∗ owns (c : Thread nD τ) a11 fullShare (rows2 S M W O)) -∗ Q ⟨⟩))
      ⊢ wp frame (wpE (defs₀ (F := F)) 𝒱₀ (c : Thread nD τ) none) E
          (chunk2 (F := F) i a1 h1 a2 h2 a3 h3 a4 h4 a5 h5 a6 h6 a7 h7 a8 h8 a9 h9 a10 h10 a11 h11 a12 h12 a13 h13 a14 h14) Q := by
  rw [owns_eq_pt c a2 h2, owns_eq_pt c a3 h3, owns_eq_pt c a12 h12, owns_eq_pt c a11 h11 O]
  iintro ⟨H2, HM, HW, HO, Hk⟩
  unfold chunk2
  sl_exec
  sl_step
  iapply Hk
  isplitl [H2]; · iexact H2
  isplitl [HM]; · iexact HM
  isplitl [HW]; · iexact HW
  iapply (pt_of_read c a11 h11 _ _ ?_) $$ HO
  sl_unfold_words
  simp only [readAt_rep, View.ld_unit_zero (S := S768x256) zero2]
  exact (View.read_writes_eq_canon _ _ _ (View.cover_of_tiled _ ![256, 256] rfl)).trans rfl

end Cert.KernelIdeal.Hand

end
-- ==== Proof.KBody2.lean ====
/-
  The third call's body, run once.
-/
module

public import proofs.«01_k».proof.Proof.KPart0
public import proofs.«01_k».proof.Proof.KPart1
public import proofs.«01_k».proof.Proof.KPart2
public import Idealize.ShloMosaic.Lib.ValueIdx

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Whether a count is positive, as the body tests it. -/
abbrev pos (v : BitVec 32) : Prop := Scalar.cmpi .ne (Scalar.extui (Scalar.cmpi .sgt v 0#32) : BitVec 32) 0#32 = 1#1

/-- Rounding the strategy-2 weight block into its scratch. -/
def scr2 (a6 : Memref sig .tc .vmem S768x256 .f32) (a12 : Memref sig .tc .vmem S768x256 .bf16) (h12 : a12.IsWhole) :
    Prog (TpuEff nD τ sig (Elt F) Λ₀ .tc) PUnit := do
  let v23 : Vec F S768x256 .f32 ← Prog.lift (.load a6 (Rect.unit (s := S768x256) ![0, 0] S768x256.size inb_S768x256_S768x256_0_0).toLoadRect (View.loadsAt_vmem h_S768x256))
  let v26 : Vec F S768x256 .bf16 ← Prog.lift (.load a12 (Rect.unit (s := S768x256) ![0, 0] S768x256.size inb_S768x256_S768x256_0_0).toLoadRect (View.loadsAt_vmem h_S768x256))
  Prog.lift (.store a12 (Rect.unit (s := S768x256) ![0, 0] S768x256.size inb_S768x256_S768x256_0_0) (k2_pay1 v23) Finset.univ (View.stores_vmem h_S768x256 (h12.storeExact_slice rfl _ packedbf16_S768x256_S768x256_0_0) (fun _ => rfl)) (.inl rfl))

theorem scr2_run (c : Dev nD) (a6 : Memref sig .tc .vmem S768x256 .f32) (h6 : a6.IsWhole) (a12 : Memref sig .tc .vmem S768x256 .bf16) (h12 : a12.IsWhole)
    (W : S768x256.Idx → Elt F .f32) (P : S768x256.Idx → Elt F .bf16) (E : Set ℕ) (Q : PUnit → sProp 𝕄) :
    iprop(owns (c : Thread nD τ) a6 fullShare W ∗ owns (c : Thread nD τ) a12 fullShare P
      ∗ (iprop(owns (c : Thread nD τ) a6 fullShare W ∗ owns (c : Thread nD τ) a12 fullShare (k2_pay1 W)) -∗ Q ⟨⟩))
      ⊢ wp frame (wpE (defs₀ (F := F)) 𝒱₀ (c : Thread nD τ) none) E (scr2 a6 a12 h12) Q := by
  rw [owns_eq_pt c a6 h6, owns_eq_pt c a12 h12 P]
  iintro ⟨H1, H2, Hk⟩
  unfold scr2
  sl_exec
  sl_step
  iapply Hk
  isplitl [H1]; · iexact H1
  iapply (pt_of_read c a12 h12 _ _ ?_) $$ H2
  rw [readAt_rep_zero a6 W zero2]
  exact read_writes_zero a12 P _ zero2 _

/-- Rounding the strategy-1 weight block into its scratch. -/
def scr1 (a7 : Memref sig .tc .vmem S4000x256 .f32) (a13 : Memref sig .tc .vmem S4000x256 .bf16) (h13 : a13.IsWhole) :
    Prog (TpuEff nD τ sig (Elt F) Λ₀ .tc) PUnit := do
  let v23 : Vec F S4000x256 .f32 ← Prog.lift (.load a7 (Rect.unit (s := S4000x256) ![0, 0] S4000x256.size inb_S4000x256_S4000x256_0_0).toLoadRect (View.loadsAt_vmem h_S4000x256))
  let v26 : Vec F S4000x256 .bf16 ← Prog.lift (.load a13 (Rect.unit (s := S4000x256) ![0, 0] S4000x256.size inb_S4000x256_S4000x256_0_0).toLoadRect (View.loadsAt_vmem h_S4000x256))
  Prog.lift (.store a13 (Rect.unit (s := S4000x256) ![0, 0] S4000x256.size inb_S4000x256_S4000x256_0_0) (k2_pay2 v23) Finset.univ (View.stores_vmem h_S4000x256 (h13.storeExact_slice rfl _ packedbf16_S4000x256_S4000x256_0_0) (fun _ => rfl)) (.inl rfl))

theorem scr1_run (c : Dev nD) (a7 : Memref sig .tc .vmem S4000x256 .f32) (h7 : a7.IsWhole) (a13 : Memref sig .tc .vmem S4000x256 .bf16) (h13 : a13.IsWhole)
    (W : S4000x256.Idx → Elt F .f32) (P : S4000x256.Idx → Elt F .bf16) (E : Set ℕ) (Q : PUnit → sProp 𝕄) :
    iprop(owns (c : Thread nD τ) a7 fullShare W ∗ owns (c : Thread nD τ) a13 fullShare P
      ∗ (iprop(owns (c : Thread nD τ) a7 fullShare W ∗ owns (c : Thread nD τ) a13 fullShare (k2_pay2 W)) -∗ Q ⟨⟩))
      ⊢ wp frame (wpE (defs₀ (F := F)) 𝒱₀ (c : Thread nD τ) none) E (scr1 a7 a13 h13) Q := by
  rw [owns_eq_pt c a7 h7, owns_eq_pt c a13 h13 P]
  iintro ⟨H1, H2, Hk⟩
  unfold scr1
  sl_exec
  sl_step
  iapply Hk
  isplitl [H1]; · iexact H1
  iapply (pt_of_read c a13 h13 _ _ ?_) $$ H2
  rw [readAt_rep_zero a7 W zero2]
  exact read_writes_zero a13 P _ zero2 _

/-- Rounding the strategy-0 weight block into its scratch. -/
def scr0 (a9 : Memref sig .tc .vmem S2000x256 .f32) (a14 : Memref sig .tc .vmem S2000x256 .bf16) (h14 : a14.IsWhole) :
    Prog (TpuEff nD τ sig (Elt F) Λ₀ .tc) PUnit := do
  let v23 : Vec F S2000x256 .f32 ← Prog.lift (.load a9 (Rect.unit (s := S2000x256) ![0, 0] S2000x256.size inb_S2000x256_S2000x256_0_0).toLoadRect (View.loadsAt_vmem h_S2000x256))
  let v26 : Vec F S2000x256 .bf16 ← Prog.lift (.load a14 (Rect.unit (s := S2000x256) ![0, 0] S2000x256.size inb_S2000x256_S2000x256_0_0).toLoadRect (View.loadsAt_vmem h_S2000x256))
  Prog.lift (.store a14 (Rect.unit (s := S2000x256) ![0, 0] S2000x256.size inb_S2000x256_S2000x256_0_0) (k2_pay3 v23) Finset.univ (View.stores_vmem h_S2000x256 (h14.storeExact_slice rfl _ packedbf16_S2000x256_S2000x256_0_0) (fun _ => rfl)) (.inl rfl))

theorem scr0_run (c : Dev nD) (a9 : Memref sig .tc .vmem S2000x256 .f32) (h9 : a9.IsWhole) (a14 : Memref sig .tc .vmem S2000x256 .bf16) (h14 : a14.IsWhole)
    (W : S2000x256.Idx → Elt F .f32) (P : S2000x256.Idx → Elt F .bf16) (E : Set ℕ) (Q : PUnit → sProp 𝕄) :
    iprop(owns (c : Thread nD τ) a9 fullShare W ∗ owns (c : Thread nD τ) a14 fullShare P
      ∗ (iprop(owns (c : Thread nD τ) a9 fullShare W ∗ owns (c : Thread nD τ) a14 fullShare (k2_pay3 W)) -∗ Q ⟨⟩))
      ⊢ wp frame (wpE (defs₀ (F := F)) 𝒱₀ (c : Thread nD τ) none) E (scr0 a9 a14 h14) Q := by
  rw [owns_eq_pt c a9 h9, owns_eq_pt c a14 h14 P]
  iintro ⟨H1, H2, Hk⟩
  unfold scr0
  sl_exec
  sl_step
  iapply Hk
  isplitl [H1]; · iexact H1
  iapply (pt_of_read c a14 h14 _ _ ?_) $$ H2
  rw [readAt_rep_zero a9 W zero2]
  exact read_writes_zero a14 P _ zero2 _

/-- Zeroing the output block. -/
def zeroOut (a11 : Memref sig .tc .vmem S2048x256 .f32) : Prog (TpuEff nD τ sig (Elt F) Λ₀ .tc) PUnit := do
  let v13 : Vec F S2048x256 .f32 ← Prog.lift (.load a11 (Rect.unit (s := S2048x256) ![0, 0] S2048x256.size inb_S2048x256_S2048x256_0_0).toLoadRect (View.loadsAt_vmem h_S2048x256))
  Prog.lift (.store a11 (Rect.unit (s := S2048x256) ![0, 0] S2048x256.size inb_S2048x256_S2048x256_0_0) (k2_pay4 (F := F)) Finset.univ (View.stores_vmem_bits_univ h_S2048x256 rfl) (.inl rfl))

theorem zeroOut_run (c : Dev nD) (a11 : Memref sig .tc .vmem S2048x256 .f32) (h11 : a11.IsWhole)
    (O : S2048x256.Idx → Elt F .f32) (E : Set ℕ) (Q : PUnit → sProp 𝕄) :
    iprop(owns (c : Thread nD τ) a11 fullShare O ∗ (owns (c : Thread nD τ) a11 fullShare (k2_pay4 (F := F)) -∗ Q ⟨⟩))
      ⊢ wp frame (wpE (defs₀ (F := F)) 𝒱₀ (c : Thread nD τ) none) E (zeroOut a11) Q := by
  rw [owns_eq_pt c a11 h11 O]
  iintro ⟨H1, Hk⟩
  unfold zeroOut
  sl_exec
  sl_step
  iapply Hk
  iapply (pt_of_read c a11 h11 _ _ ?_) $$ H1
  exact read_writes_zero a11 O _ zero2 _

/-- A stretch that runs only under a condition. -/
def opt (b : Prop) [Decidable b] (p : Prog (TpuEff nD τ sig (Elt F) Λ₀ .tc) PUnit) : Prog (TpuEff nD τ sig (Elt F) Λ₀ .tc) PUnit :=
  if b then p else pure ⟨⟩

theorem opt_pos {b : Prop} [Decidable b] (h : b) (p : Prog (TpuEff nD τ sig (Elt F) Λ₀ .tc) PUnit) : opt b p = p := if_pos h
theorem opt_neg {b : Prop} [Decidable b] (h : ¬ b) (p : Prog (TpuEff nD τ sig (Elt F) Λ₀ .tc) PUnit) : opt b p = pure ⟨⟩ := if_neg h

/-- Its run: what changes, changes only under the condition. -/
theorem opt_run {α : Type} (c : Dev nD) (b : Prop) [Decidable b] (p : Prog (TpuEff nD τ sig (Elt F) Λ₀ .tc) PUnit)
    (R : sProp 𝕄) (P : α → sProp 𝕄) (x x' : α) (E : Set ℕ)
    (h : ∀ Q : PUnit → sProp 𝕄, iprop(R ∗ P x ∗ (iprop(R ∗ P x') -∗ Q ⟨⟩)) ⊢ wp frame (wpE (defs₀ (F := F)) 𝒱₀ (c : Thread nD τ) none) E p Q)
    {β : Type} (k : PUnit → Prog (TpuEff nD τ sig (Elt F) Λ₀ .tc) β) (Q : β → sProp 𝕄) :
    iprop(R ∗ P x ∗ (iprop(R ∗ P (if b then x' else x)) -∗ wp frame (wpE (defs₀ (F := F)) 𝒱₀ (c : Thread nD τ) none) E (k ⟨⟩) Q))
      ⊢ wp frame (wpE (defs₀ (F := F)) 𝒱₀ (c : Thread nD τ) none) E (opt b p >>= k) Q := by
  rw [wp_bind]
  by_cases hb : b
  · rw [opt_pos hb, if_pos hb]
    exact h fun r => wp frame (wpE (defs₀ (F := F)) 𝒱₀ (c : Thread nD τ) none) E (k r) Q
  · rw [opt_neg hb, if_neg hb]
    rw [wp_pure]
    iintro ⟨HR, HP, Hk⟩
    imodintro
    iapply Hk
    isplitl [HR]; · iexact HR
    iexact HP

/-- The body after it has read the three counts, as its stretches in a row. -/
def rest2 (i : grid2.Coords) (a1 : Memref sig .tc .smem S3 .i32) (h1 : a1.IsWhole) (a2 : Memref sig .tc .vmem S2048x128 .i32) (h2 : a2.IsWhole) (a3 : Memref sig .tc .vmem S2048x768 .bf16) (h3 : a3.IsWhole) (a4 : Memref sig .tc .vmem S2048x4000 .bf16) (h4 : a4.IsWhole) (a5 : Memref sig .tc .vmem S2048x2000 .bf16) (h5 : a5.IsWhole) (a6 : Memref sig .tc .vmem S768x256 .f32) (h6 : a6.IsWhole) (a7 : Memref sig .tc .vmem S4000x256 .f32) (h7 : a7.IsWhole) (a8 : Memref sig .tc .vmem S1x256 .f32) (h8 : a8.IsWhole) (a9 : Memref sig .tc .vmem S2000x256 .f32) (h9 : a9.IsWhole) (a10 : Memref sig .tc .vmem S1x256 .f32) (h10 : a10.IsWhole) (a11 : Memref sig .tc .vmem S2048x256 .f32) (h11 : a11.IsWhole) (a12 : Memref sig .tc .vmem S768x256 .bf16) (h12 : a12.IsWhole) (a13 : Memref sig .tc .vmem S4000x256 .bf16) (h13 : a13.IsWhole) (a14 : Memref sig .tc .vmem S2000x256 .bf16) (h14 : a14.IsWhole)
    (v0 v1 v2 : BitVec 32) : Prog (TpuEff nD τ sig (Elt F) Λ₀ .tc) PUnit :=
  opt (pos v2) (scr2 a6 a12 h12) >>= fun _ =>
  opt (pos v1) (scr1 a7 a13 h13) >>= fun _ =>
  opt (pos v0) (scr0 a9 a14 h14) >>= fun _ =>
  zeroOut a11 >>= fun _ =>
  opt (pos v0) (k2_part5 i a1 h1 a2 h2 a3 h3 a4 h4 a5 h5 a6 h6 a7 h7 a8 h8 a9 h9 a10 h10 a11 h11 a12 h12 a13 h13 a14 h14) >>= fun _ =>
  opt (pos v1) (k2_part10 i a1 h1 a2 h2 a3 h3 a4 h4 a5 h5 a6 h6 a7 h7 a8 h8 a9 h9 a10 h10 a11 h11 a12 h12 a13 h13 a14 h14) >>= fun _ =>
  opt (pos v2) (chunk2 i a1 h1 a2 h2 a3 h3 a4 h4 a5 h5 a6 h6 a7 h7 a8 h8 a9 h9 a10 h10 a11 h11 a12 h12 a13 h13 a14 h14) >>= fun _ => pure ⟨⟩

/-- The body: the three counts read from the table, then the rest. -/
def body2 (i : grid2.Coords) (a1 : Memref sig .tc .smem S3 .i32) (h1 : a1.IsWhole) (a2 : Memref sig .tc .vmem S2048x128 .i32) (h2 : a2.IsWhole) (a3 : Memref sig .tc .vmem S2048x768 .bf16) (h3 : a3.IsWhole) (a4 : Memref sig .tc .vmem S2048x4000 .bf16) (h4 : a4.IsWhole) (a5 : Memref sig .tc .vmem S2048x2000 .bf16) (h5 : a5.IsWhole) (a6 : Memref sig .tc .vmem S768x256 .f32) (h6 : a6.IsWhole) (a7 : Memref sig .tc .vmem S4000x256 .f32) (h7 : a7.IsWhole) (a8 : Memref sig .tc .vmem S1x256 .f32) (h8 : a8.IsWhole) (a9 : Memref sig .tc .vmem S2000x256 .f32) (h9 : a9.IsWhole) (a10 : Memref sig .tc .vmem S1x256 .f32) (h10 : a10.IsWhole) (a11 : Memref sig .tc .vmem S2048x256 .f32) (h11 : a11.IsWhole) (a12 : Memref sig .tc .vmem S768x256 .bf16) (h12 : a12.IsWhole) (a13 : Memref sig .tc .vmem S4000x256 .bf16) (h13 : a13.IsWhole) (a14 : Memref sig .tc .vmem S2000x256 .bf16) (h14 : a14.IsWhole) :
    Prog (TpuEff nD τ sig (Elt F) Λ₀ .tc) PUnit := do
  let v0 : Elt F .i32 ← smemLoad a1 (Rect.unit (s := S3) ![0] S1.size inb_S3_S1_0) numel1_S1 rfl
  let v1 : Elt F .i32 ← smemLoad a1 (Rect.unit (s := S3) ![1] S1.size inb_S3_S1_1) numel1_S1 rfl
  let v2 : Elt F .i32 ← smemLoad a1 (Rect.unit (s := S3) ![2] S1.size inb_S3_S1_2) numel1_S1 rfl
  rest2 i a1 h1 a2 h2 a3 h3 a4 h4 a5 h5 a6 h6 a7 h7 a8 h8 a9 h9 a10 h10 a11 h11 a12 h12 a13 h13 a14 h14 v0 v1 v2

theorem body2_eq (i : grid2.Coords) (a1 : Memref sig .tc .smem S3 .i32) (h1 : a1.IsWhole) (a2 : Memref sig .tc .vmem S2048x128 .i32) (h2 : a2.IsWhole) (a3 : Memref sig .tc .vmem S2048x768 .bf16) (h3 : a3.IsWhole) (a4 : Memref sig .tc .vmem S2048x4000 .bf16) (h4 : a4.IsWhole) (a5 : Memref sig .tc .vmem S2048x2000 .bf16) (h5 : a5.IsWhole) (a6 : Memref sig .tc .vmem S768x256 .f32) (h6 : a6.IsWhole) (a7 : Memref sig .tc .vmem S4000x256 .f32) (h7 : a7.IsWhole) (a8 : Memref sig .tc .vmem S1x256 .f32) (h8 : a8.IsWhole) (a9 : Memref sig .tc .vmem S2000x256 .f32) (h9 : a9.IsWhole) (a10 : Memref sig .tc .vmem S1x256 .f32) (h10 : a10.IsWhole) (a11 : Memref sig .tc .vmem S2048x256 .f32) (h11 : a11.IsWhole) (a12 : Memref sig .tc .vmem S768x256 .bf16) (h12 : a12.IsWhole) (a13 : Memref sig .tc .vmem S4000x256 .bf16) (h13 : a13.IsWhole) (a14 : Memref sig .tc .vmem S2000x256 .bf16) (h14 : a14.IsWhole) :
    cc2__proj_body (F := F) i a1 h1 a2 h2 a3 h3 a4 h4 a5 h5 a6 h6 a7 h7 a8 h8 a9 h9 a10 h10 a11 h11 a12 h12 a13 h13 a14 h14 = body2 i a1 h1 a2 h2 a3 h3 a4 h4 a5 h5 a6 h6 a7 h7 a8 h8 a9 h9 a10 h10 a11 h11 a12 h12 a13 h13 a14 h14 := by
  rw [cc2__proj_body_eq_skeleton]
  unfold cc2__proj_body_skel body2 rest2
  refine congrArg _ (funext fun v0 => congrArg _ (funext fun v1 => congrArg _ (funext fun v2 => ?_)))
  by_cases h2 : pos v2 <;> by_cases h1 : pos v1 <;> by_cases h0 : pos v0 <;>
    simp only [pos, opt_pos, opt_neg, h0, h1, h2, if_true, if_false, not_false_eq_true, scr2, scr1, scr0, zeroOut, chunk2, bind_assoc, pure_bind, bind_pure] <;> rfl

/-- The weight blocks' scratches and the output block after the body, by the three counts. -/
def scrW {sh : Shape} {e : EltTy} (v : BitVec 32) (new old : sh.Idx → Elt F e) : sh.Idx → Elt F e := if pos v then new else old

def out2 (v0 v1 v2 : BitVec 32) (S : S2048x128.Idx → Elt F .i32) (XB : S2048x768.Idx → Elt F .bf16) (H : S2048x4000.Idx → Elt F .bf16)
    (MF : S2048x2000.Idx → Elt F .bf16) (BS BE : S1x256.Idx → Elt F .f32)
    (P : S768x256.Idx → Elt F .bf16) (R : S4000x256.Idx → Elt F .bf16) (U : S2000x256.Idx → Elt F .bf16) : S2048x256.Idx → Elt F .f32 :=
  let O0 : S2048x256.Idx → Elt F .f32 := k2_pay4 (F := F)
  let O1 := if pos v0 then rows0 S MF U BE O0 else O0
  let O2 := if pos v1 then rows1 S H R BS O1 else O1
  if pos v2 then rows2 S XB P O2 else O2

set_option maxHeartbeats 1000000 in
theorem rest2_run (c : Dev nD) (i : grid2.Coords) (a1 : Memref sig .tc .smem S3 .i32) (h1 : a1.IsWhole) (a2 : Memref sig .tc .vmem S2048x128 .i32) (h2 : a2.IsWhole) (a3 : Memref sig .tc .vmem S2048x768 .bf16) (h3 : a3.IsWhole) (a4 : Memref sig .tc .vmem S2048x4000 .bf16) (h4 : a4.IsWhole) (a5 : Memref sig .tc .vmem S2048x2000 .bf16) (h5 : a5.IsWhole) (a6 : Memref sig .tc .vmem S768x256 .f32) (h6 : a6.IsWhole) (a7 : Memref sig .tc .vmem S4000x256 .f32) (h7 : a7.IsWhole) (a8 : Memref sig .tc .vmem S1x256 .f32) (h8 : a8.IsWhole) (a9 : Memref sig .tc .vmem S2000x256 .f32) (h9 : a9.IsWhole) (a10 : Memref sig .tc .vmem S1x256 .f32) (h10 : a10.IsWhole) (a11 : Memref sig .tc .vmem S2048x256 .f32) (h11 : a11.IsWhole) (a12 : Memref sig .tc .vmem S768x256 .bf16) (h12 : a12.IsWhole) (a13 : Memref sig .tc .vmem S4000x256 .bf16) (h13 : a13.IsWhole) (a14 : Memref sig .tc .vmem S2000x256 .bf16) (h14 : a14.IsWhole) (v0 v1 v2 : BitVec 32)
    (T : S3.Idx → Elt F .i32) (S : S2048x128.Idx → Elt F .i32) (XB : S2048x768.Idx → Elt F .bf16) (H : S2048x4000.Idx → Elt F .bf16) (MF : S2048x2000.Idx → Elt F .bf16) (WF : S768x256.Idx → Elt F .f32) (WS : S4000x256.Idx → Elt F .f32) (BS : S1x256.Idx → Elt F .f32) (WE : S2000x256.Idx → Elt F .f32) (BE : S1x256.Idx → Elt F .f32) (O : S2048x256.Idx → Elt F .f32) (P : S768x256.Idx → Elt F .bf16) (R : S4000x256.Idx → Elt F .bf16) (U : S2000x256.Idx → Elt F .bf16)
    (E : Set ℕ) (Q : PUnit → sProp 𝕄) :
    iprop(owns (c : Thread nD τ) a2 fullShare S
      ∗ owns (c : Thread nD τ) a3 fullShare XB
      ∗ owns (c : Thread nD τ) a4 fullShare H
      ∗ owns (c : Thread nD τ) a5 fullShare MF
      ∗ owns (c : Thread nD τ) a6 fullShare WF
      ∗ owns (c : Thread nD τ) a7 fullShare WS
      ∗ owns (c : Thread nD τ) a8 fullShare BS
      ∗ owns (c : Thread nD τ) a9 fullShare WE
      ∗ owns (c : Thread nD τ) a10 fullShare BE
      ∗ owns (c : Thread nD τ) a11 fullShare O
      ∗ owns (c : Thread nD τ) a12 fullShare P
      ∗ owns (c : Thread nD τ) a13 fullShare R
      ∗ owns (c : Thread nD τ) a14 fullShare U
      ∗ (iprop(owns (c : Thread nD τ) a2 fullShare S
      ∗ owns (c : Thread nD τ) a3 fullShare XB
      ∗ owns (c : Thread nD τ) a4 fullShare H
      ∗ owns (c : Thread nD τ) a5 fullShare MF
      ∗ owns (c : Thread nD τ) a6 fullShare WF
      ∗ owns (c : Thread nD τ) a7 fullShare WS
      ∗ owns (c : Thread nD τ) a8 fullShare BS
      ∗ owns (c : Thread nD τ) a9 fullShare WE
      ∗ owns (c : Thread nD τ) a10 fullShare BE
      ∗ owns (c : Thread nD τ) a11 fullShare (out2 v0 v1 v2 S XB H MF BS BE (if pos v2 then k2_pay1 WF else P) (if pos v1 then k2_pay2 WS else R) (if pos v0 then k2_pay3 WE else U))
      ∗ owns (c : Thread nD τ) a12 fullShare (if pos v2 then k2_pay1 WF else P)
      ∗ owns (c : Thread nD τ) a13 fullShare (if pos v1 then k2_pay2 WS else R)
      ∗ owns (c : Thread nD τ) a14 fullShare (if pos v0 then k2_pay3 WE else U)) -∗ Q ⟨⟩))
      ⊢ wp frame (wpE (defs₀ (F := F)) 𝒱₀ (c : Thread nD τ) none) E
          (rest2 i a1 h1 a2 h2 a3 h3 a4 h4 a5 h5 a6 h6 a7 h7 a8 h8 a9 h9 a10 h10 a11 h11 a12 h12 a13 h13 a14 h14 v0 v1 v2) Q := by
  unfold rest2
  let O1 : S2048x256.Idx → Elt F .f32 := (if pos v0 then rows0 S MF (if pos v0 then k2_pay3 WE else U) BE (k2_pay4 (F := F)) else (k2_pay4 (F := F)))
  let O2 : S2048x256.Idx → Elt F .f32 := if pos v1 then rows1 S H (if pos v1 then k2_pay2 WS else R) BS O1 else O1
  iintro ⟨H2, H3, H4, H5, H6, H7, H8, H9, H10, H11, H12, H13, H14, Hk⟩
  iapply (opt_run c (pos v2) (scr2 a6 a12 h12) (owns (c : Thread nD τ) a6 fullShare WF) (fun x => owns (c : Thread nD τ) a12 fullShare x) P (k2_pay1 WF) E
    (fun Q => by
      iintro ⟨Ha, Hb, Hk⟩; iapply (scr2_run c a6 h6 a12 h12 WF P E Q)
      isplitl [Ha]; · iexact Ha
      isplitl [Hb]; · iexact Hb
      iexact Hk))
  isplitl [H6]; · iexact H6
  isplitl [H12]; · iexact H12
  iintro ⟨H6, H12⟩
  iapply (opt_run c (pos v1) (scr1 a7 a13 h13) (owns (c : Thread nD τ) a7 fullShare WS) (fun x => owns (c : Thread nD τ) a13 fullShare x) R (k2_pay2 WS) E
    (fun Q => by
      iintro ⟨Ha, Hb, Hk⟩; iapply (scr1_run c a7 h7 a13 h13 WS R E Q)
      isplitl [Ha]; · iexact Ha
      isplitl [Hb]; · iexact Hb
      iexact Hk))
  isplitl [H7]; · iexact H7
  isplitl [H13]; · iexact H13
  iintro ⟨H7, H13⟩
  iapply (opt_run c (pos v0) (scr0 a9 a14 h14) (owns (c : Thread nD τ) a9 fullShare WE) (fun x => owns (c : Thread nD τ) a14 fullShare x) U (k2_pay3 WE) E
    (fun Q => by
      iintro ⟨Ha, Hb, Hk⟩; iapply (scr0_run c a9 h9 a14 h14 WE U E Q)
      isplitl [Ha]; · iexact Ha
      isplitl [Hb]; · iexact Hb
      iexact Hk))
  isplitl [H9]; · iexact H9
  isplitl [H14]; · iexact H14
  iintro ⟨H9, H14⟩
  rw [wp_bind]
  iapply (zeroOut_run c a11 h11 O E)
  isplitl [H11]; · iexact H11
  iintro H11
  iapply (opt_run c (pos v0) (k2_part5 i a1 h1 a2 h2 a3 h3 a4 h4 a5 h5 a6 h6 a7 h7 a8 h8 a9 h9 a10 h10 a11 h11 a12 h12 a13 h13 a14 h14)
    iprop(owns (c : Thread nD τ) a2 fullShare S ∗ owns (c : Thread nD τ) a5 fullShare MF ∗ owns (c : Thread nD τ) a14 fullShare (if pos v0 then k2_pay3 WE else U) ∗ owns (c : Thread nD τ) a10 fullShare BE)
    (fun x => owns (c : Thread nD τ) a11 fullShare x) (k2_pay4 (F := F)) (rows0 S MF (if pos v0 then k2_pay3 WE else U) BE (k2_pay4 (F := F))) E
    (fun Q => by
      iintro ⟨⟨Ha, Hb, Hc, Hd⟩, He, Hk⟩
      iapply (part0_run c i a1 h1 a2 h2 a3 h3 a4 h4 a5 h5 a6 h6 a7 h7 a8 h8 a9 h9 a10 h10 a11 h11 a12 h12 a13 h13 a14 h14 S MF _ BE _ E Q)
      isplitl [Ha]; · iexact Ha
      isplitl [Hb]; · iexact Hb
      isplitl [Hc]; · iexact Hc
      isplitl [Hd]; · iexact Hd
      isplitl [He]; · iexact He
      iintro ⟨Ha, Hb, Hc, Hd, He⟩
      iapply Hk
      isplitr [He]
      · isplitl [Ha]; · iexact Ha
        isplitl [Hb]; · iexact Hb
        isplitl [Hc]; · iexact Hc
        iexact Hd
      iexact He))
  isplitl [H2 H5 H14 H10]
  · isplitl [H2]; · iexact H2
    isplitl [H5]; · iexact H5
    isplitl [H14]; · iexact H14
    iexact H10
  isplitl [H11]; · iexact H11
  iintro ⟨⟨H2, H5, H14, H10⟩, H11⟩
  iapply (opt_run c (pos v1) (k2_part10 i a1 h1 a2 h2 a3 h3 a4 h4 a5 h5 a6 h6 a7 h7 a8 h8 a9 h9 a10 h10 a11 h11 a12 h12 a13 h13 a14 h14)
    iprop(owns (c : Thread nD τ) a2 fullShare S ∗ owns (c : Thread nD τ) a4 fullShare H ∗ owns (c : Thread nD τ) a13 fullShare (if pos v1 then k2_pay2 WS else R) ∗ owns (c : Thread nD τ) a8 fullShare BS)
    (fun x => owns (c : Thread nD τ) a11 fullShare x) O1 (rows1 S H (if pos v1 then k2_pay2 WS else R) BS O1) E
    (fun Q => by
      iintro ⟨⟨Ha, Hb, Hc, Hd⟩, He, Hk⟩
      iapply (part1_run c i a1 h1 a2 h2 a3 h3 a4 h4 a5 h5 a6 h6 a7 h7 a8 h8 a9 h9 a10 h10 a11 h11 a12 h12 a13 h13 a14 h14 S H _ BS _ E Q)
      isplitl [Ha]; · iexact Ha
      isplitl [Hb]; · iexact Hb
      isplitl [Hc]; · iexact Hc
      isplitl [Hd]; · iexact Hd
      isplitl [He]; · iexact He
      iintro ⟨Ha, Hb, Hc, Hd, He⟩
      iapply Hk
      isplitr [He]
      · isplitl [Ha]; · iexact Ha
        isplitl [Hb]; · iexact Hb
        isplitl [Hc]; · iexact Hc
        iexact Hd
      iexact He))
  isplitl [H2 H4 H13 H8]
  · isplitl [H2]; · iexact H2
    isplitl [H4]; · iexact H4
    isplitl [H13]; · iexact H13
    iexact H8
  isplitl [H11]; · iexact H11
  iintro ⟨⟨H2, H4, H13, H8⟩, H11⟩
  iapply (opt_run c (pos v2) (chunk2 i a1 h1 a2 h2 a3 h3 a4 h4 a5 h5 a6 h6 a7 h7 a8 h8 a9 h9 a10 h10 a11 h11 a12 h12 a13 h13 a14 h14)
    iprop(owns (c : Thread nD τ) a2 fullShare S ∗ owns (c : Thread nD τ) a3 fullShare XB ∗ owns (c : Thread nD τ) a12 fullShare (if pos v2 then k2_pay1 WF else P))
    (fun x => owns (c : Thread nD τ) a11 fullShare x) O2 (rows2 S XB (if pos v2 then k2_pay1 WF else P) O2) E
    (fun Q => by
      iintro ⟨⟨Ha, Hb, Hc⟩, He, Hk⟩
      iapply (part2_run c i a1 h1 a2 h2 a3 h3 a4 h4 a5 h5 a6 h6 a7 h7 a8 h8 a9 h9 a10 h10 a11 h11 a12 h12 a13 h13 a14 h14 S XB _ _ E Q)
      isplitl [Ha]; · iexact Ha
      isplitl [Hb]; · iexact Hb
      isplitl [Hc]; · iexact Hc
      isplitl [He]; · iexact He
      iintro ⟨Ha, Hb, Hc, He⟩
      iapply Hk
      isplitr [He]
      · isplitl [Ha]; · iexact Ha
        isplitl [Hb]; · iexact Hb
        iexact Hc
      iexact He))
  isplitl [H2 H3 H12]
  · isplitl [H2]; · iexact H2
    isplitl [H3]; · iexact H3
    iexact H12
  isplitl [H11]; · iexact H11
  iintro ⟨⟨H2, H3, H12⟩, H11⟩
  simp only [wp_pure]
  imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- Word `k` of the prefetched table. -/
def tab (T : S3.Idx → Elt F .i32) (k : Fin 3) : BitVec 32 := T (ValueIdx.ix1 k)

theorem tab_read (a1 : Memref sig .tc .smem S3 .i32) (T : S3.Idx → Elt F .i32) (k : Nat) (hk : k < 3)
    (inb : ∀ a, (![k] : Fin 1 → Nat) a + S1.size a ≤ S3.size a) (h : 0 < (Rect.unit (s := S3) ![k] S1.size inb).shape.numel) :
    View.readAt (Elt F) a1.view (Rect.unit (s := S3) ![k] S1.size inb).toLoadRect (a1.view.rep T) (Shape.Idx.first h) = tab T ⟨k, hk⟩ := by
  rw [readAt_rep]
  refine congrArg T (funext fun a => ?_)
  obtain rfl : a = 0 := Fin.ext (by have := a.isLt; change a.val < 1 at this; show a.val = 0; omega)
  refine Fin.ext ?_
  have h0 : ((Shape.Idx.first h) (0 : Fin 1)).val < 1 := ((Shape.Idx.first h) (0 : Fin 1)).isLt
  show k + 1 * ((Shape.Idx.first h) (0 : Fin 1)).val = k
  omega

theorem body2_run (c : Dev nD) (i : grid2.Coords) (a1 : Memref sig .tc .smem S3 .i32) (h1 : a1.IsWhole) (a2 : Memref sig .tc .vmem S2048x128 .i32) (h2 : a2.IsWhole) (a3 : Memref sig .tc .vmem S2048x768 .bf16) (h3 : a3.IsWhole) (a4 : Memref sig .tc .vmem S2048x4000 .bf16) (h4 : a4.IsWhole) (a5 : Memref sig .tc .vmem S2048x2000 .bf16) (h5 : a5.IsWhole) (a6 : Memref sig .tc .vmem S768x256 .f32) (h6 : a6.IsWhole) (a7 : Memref sig .tc .vmem S4000x256 .f32) (h7 : a7.IsWhole) (a8 : Memref sig .tc .vmem S1x256 .f32) (h8 : a8.IsWhole) (a9 : Memref sig .tc .vmem S2000x256 .f32) (h9 : a9.IsWhole) (a10 : Memref sig .tc .vmem S1x256 .f32) (h10 : a10.IsWhole) (a11 : Memref sig .tc .vmem S2048x256 .f32) (h11 : a11.IsWhole) (a12 : Memref sig .tc .vmem S768x256 .bf16) (h12 : a12.IsWhole) (a13 : Memref sig .tc .vmem S4000x256 .bf16) (h13 : a13.IsWhole) (a14 : Memref sig .tc .vmem S2000x256 .bf16) (h14 : a14.IsWhole)
    (T : S3.Idx → Elt F .i32) (S : S2048x128.Idx → Elt F .i32) (XB : S2048x768.Idx → Elt F .bf16) (H : S2048x4000.Idx → Elt F .bf16) (MF : S2048x2000.Idx → Elt F .bf16) (WF : S768x256.Idx → Elt F .f32) (WS : S4000x256.Idx → Elt F .f32) (BS : S1x256.Idx → Elt F .f32) (WE : S2000x256.Idx → Elt F .f32) (BE : S1x256.Idx → Elt F .f32) (O : S2048x256.Idx → Elt F .f32) (P : S768x256.Idx → Elt F .bf16) (R : S4000x256.Idx → Elt F .bf16) (U : S2000x256.Idx → Elt F .bf16)
    (E : Set ℕ) (Q : PUnit → sProp 𝕄) :
    iprop(owns (c : Thread nD τ) a1 fullShare T
      ∗ owns (c : Thread nD τ) a2 fullShare S
      ∗ owns (c : Thread nD τ) a3 fullShare XB
      ∗ owns (c : Thread nD τ) a4 fullShare H
      ∗ owns (c : Thread nD τ) a5 fullShare MF
      ∗ owns (c : Thread nD τ) a6 fullShare WF
      ∗ owns (c : Thread nD τ) a7 fullShare WS
      ∗ owns (c : Thread nD τ) a8 fullShare BS
      ∗ owns (c : Thread nD τ) a9 fullShare WE
      ∗ owns (c : Thread nD τ) a10 fullShare BE
      ∗ owns (c : Thread nD τ) a11 fullShare O
      ∗ owns (c : Thread nD τ) a12 fullShare P
      ∗ owns (c : Thread nD τ) a13 fullShare R
      ∗ owns (c : Thread nD τ) a14 fullShare U
      ∗ (iprop(owns (c : Thread nD τ) a1 fullShare T
      ∗ owns (c : Thread nD τ) a2 fullShare S
      ∗ owns (c : Thread nD τ) a3 fullShare XB
      ∗ owns (c : Thread nD τ) a4 fullShare H
      ∗ owns (c : Thread nD τ) a5 fullShare MF
      ∗ owns (c : Thread nD τ) a6 fullShare WF
      ∗ owns (c : Thread nD τ) a7 fullShare WS
      ∗ owns (c : Thread nD τ) a8 fullShare BS
      ∗ owns (c : Thread nD τ) a9 fullShare WE
      ∗ owns (c : Thread nD τ) a10 fullShare BE
      ∗ owns (c : Thread nD τ) a11 fullShare (out2 (tab T 0) (tab T 1) (tab T 2) S XB H MF BS BE (if pos (tab T 2) then k2_pay1 WF else P) (if pos (tab T 1) then k2_pay2 WS else R) (if pos (tab T 0) then k2_pay3 WE else U))
      ∗ owns (c : Thread nD τ) a12 fullShare (if pos (tab T 2) then k2_pay1 WF else P)
      ∗ owns (c : Thread nD τ) a13 fullShare (if pos (tab T 1) then k2_pay2 WS else R)
      ∗ owns (c : Thread nD τ) a14 fullShare (if pos (tab T 0) then k2_pay3 WE else U)) -∗ Q ⟨⟩))
      ⊢ wp frame (wpE (defs₀ (F := F)) 𝒱₀ (c : Thread nD τ) none) E
          (cc2__proj_body (F := F) i a1 h1 a2 h2 a3 h3 a4 h4 a5 h5 a6 h6 a7 h7 a8 h8 a9 h9 a10 h10 a11 h11 a12 h12 a13 h13 a14 h14) Q := by
  have hrest := fun v0 v1 v2 => rest2_run c i a1 h1 a2 h2 a3 h3 a4 h4 a5 h5 a6 h6 a7 h7 a8 h8 a9 h9 a10 h10 a11 h11 a12 h12 a13 h13 a14 h14 v0 v1 v2 T S XB H MF WF WS BS WE BE O P R U E Q
  rw [owns_eq_pt c a1 h1]
  iintro ⟨H1, H2, H3, H4, H5, H6, H7, H8, H9, H10, H11, H12, H13, H14, Hk⟩
  rw [body2_eq]; unfold body2
  generalize rest2 (F := F) i a1 h1 a2 h2 a3 h3 a4 h4 a5 h5 a6 h6 a7 h7 a8 h8 a9 h9 a10 h10 a11 h11 a12 h12 a13 h13 a14 h14 = r at hrest ⊢
  sl_exec
  sl_unfold_words
  rw [tab_read a1 T 0 (by decide), tab_read a1 T 1 (by decide), tab_read a1 T 2 (by decide)]
  iapply (hrest (tab T 0) (tab T 1) (tab T 2))
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro H
  iapply Hk
  isplitl [H1]; · iexact H1
  iexact H

end Cert.KernelIdeal.Hand

end
-- ==== Proof.KAfter.lean ====
/-
  What the body of each region may leave in each staging buffer.
-/
module

public import proofs.«01_k».proof.Proof.KKit
public import proofs.«01_k».proof.Proof.KBody0
public import proofs.«01_k».proof.Proof.KBody1
public import proofs.«01_k».proof.Proof.KBody2

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (RDat WinFacts PreFacts unscopedRest unscopedRestP prefHeld arrRef pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Region 0: the inputs as they were, the counts, the strategies and the narrowed rows. -/
def after0 (a : Tabs F) (V : Vals F) (c : Dev nD) (w : Fin 5) (t : Fin cfg0.N) :
    (Y X : (cfg0.win w).block.Idx → Elt F (cfg0.win w).elt) → Prop :=
  match w with
  | ⟨0, _⟩ => fun Y X => X = Y
  | ⟨1, _⟩ => fun Y X => X = Y
  | ⟨2, _⟩ => fun _ X => ∃ d, CntOf (fet a V 0 c 0 t d) X
  | ⟨3, _⟩ => fun _ X => ∃ d, X = k0_pay4 (fet a V 0 c 0 t d)
  | ⟨4, _⟩ => fun _ X => ∃ d, X = k0_pay5 (fet a V 0 c 1 t d)
  | ⟨_ + 5, h⟩ => absurd h (Nat.not_lt.2 (Nat.le_add_left _ _))

/-- Region 1: the inputs as they were, the two layers' column tiles. -/
def after1 (a : Tabs F) (V : Vals F) (c : Dev nD) (w : Fin 7) (t : Fin cfg1.N) :
    (Y X : (cfg1.win w).block.Idx → Elt F (cfg1.win w).elt) → Prop :=
  match w with
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun _ X => ∃ d0 d1 d2, X = k1_pay2 (fet a V 1 c 0 t d0) (fet a V 1 c 1 t d1) (fet a V 1 c 2 t d2)
  | ⟨6, _⟩ => fun _ X => ∃ d0 d3 d4, X = k1_pay3 (fet a V 1 c 0 t d0) (fet a V 1 c 3 t d3) (fet a V 1 c 4 t d4)
  | ⟨_ + 7, h⟩ => absurd h (Nat.not_lt.2 (Nat.le_add_left _ _))

/-- The three counts the last region's tables hold. -/
def tabOf (a : Tabs F) (k : Fin 3) : BitVec 32 := tab (F := F) (fun x => (a 2).1 0 x) k

/-- Region 2: the inputs as they were, the output's column tile. -/
def after2 (a : Tabs F) (V : Vals F) (c : Dev nD) (w : Fin 10) (t : Fin (cfg2 (a 2)).N) :
    (Y X : ((cfg2 (a 2)).win w).block.Idx → Elt F ((cfg2 (a 2)).win w).elt) → Prop :=
  match w with
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun Y X => X = Y
  | ⟨6, _⟩ => fun Y X => X = Y
  | ⟨7, _⟩ => fun Y X => X = Y
  | ⟨8, _⟩ => fun Y X => X = Y
  | ⟨9, _⟩ => fun _ X => ∃ d0 d1 d2 d3 d4 d5 d6 d7 d8 P R U,
      X = out2 (tabOf a 0) (tabOf a 1) (tabOf a 2) (fet a V 2 c 0 t d0) (fet a V 2 c 1 t d1) (fet a V 2 c 2 t d2) (fet a V 2 c 3 t d3)
        (fet a V 2 c 6 t d6) (fet a V 2 c 8 t d8)
        (if pos (tabOf a 2) then k2_pay1 (fet a V 2 c 4 t d4) else P)
        (if pos (tabOf a 1) then k2_pay2 (fet a V 2 c 5 t d5) else R)
        (if pos (tabOf a 0) then k2_pay3 (fet a V 2 c 7 t d7) else U)
  | ⟨_ + 10, h⟩ => absurd h (Nat.not_lt.2 (Nat.le_add_left _ _))

/-- The three regions' relations together. -/
def aft (a : Tabs F) (V : Vals F) : Afters a := fun p =>
  match p with
  | ⟨0, _⟩ => after0 a V
  | ⟨1, _⟩ => after1 a V
  | ⟨2, _⟩ => after2 a V
  | ⟨_ + 3, h⟩ => absurd h (Nat.not_lt.2 (Nat.le_add_left _ _))

end Cert.KernelIdeal.Hand

end
-- ==== Proof.KRegion01.lean ====
/-
  The bodies of the first two regions do what the regions' proof data ask of them.
-/
module

public import proofs.«01_k».proof.Proof.KAfter

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (RDat WinFacts PreFacts unscopedRest unscopedRestP prefHeld arrRef pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Every input window's buffer holds a fetch of its array's block when the body runs. -/
theorem finds_fet (a : Tabs F) (V : Vals F) (p : Fin 3) (c : Dev nD) (w : Fin (pin (pcfgs (F := F)) a p).W)
    (hw : ((pin (pcfgs (F := F)) a p).win w).isOut = false)
    (hclip : ∀ t t', ((pin (pcfgs (F := F)) a p).win w).index t = ((pin (pcfgs (F := F)) a p).win w).index t' →
      ((pin (pcfgs (F := F)) a p).win w).clip ((pin (pcfgs (F := F)) a p).grid.coords t)
        = ((pin (pcfgs (F := F)) a p).win w).clip ((pin (pcfgs (F := F)) a p).grid.coords t'))
    (hkeep : ∀ t Y X, aft a V p c w t Y X → X = Y) (t : Fin (pin (pcfgs (F := F)) a p).N) (Y) (h : (rds a V (aft a V) p c).Finds w t Y) :
    ∃ d, Y = fet a V p c w t d :=
  Pipeline.RDat.finds_in_eq_fetched (rds a V (aft a V) p c) w hw hclip hkeep t Y h

theorem body_obligation0 (a : Tabs F) (V : Vals F) (c : Dev nD) :
    (rds a V (aft a V) 0 c).BodyObligation (defs₀ (F := F)) 𝒱₀ () Set.univ := fun t Y hY => by
  obtain ⟨d0, e0⟩ := finds_fet a V 0 c 0 rfl (fun _ _ _ => rfl) (fun _ _ _ h => h) t _ (hY 0)
  obtain ⟨d1, e1⟩ := finds_fet a V 0 c 1 rfl (fun _ _ _ => rfl) (fun _ _ _ h => h) t _ (hY 1)
  rw [show (rds a V (aft a V) 0 c).Φ t.succ = (rds a V (aft a V) 0 c).Φ t.castSucc from rfl,
    show (rds a V (aft a V) 0 c).owesAt () t.succ = (rds a V (aft a V) 0 c).owesAt () t.castSucc from rfl]
  refine (sep_mono .rfl (sep_mono .rfl (Entails.of_eq (bigSep_W0 _)))).trans ?_
  have hpost := Entails.of_eq (bigSep_W0 (M := 𝕄) (fun w => iprop(∃ X, ⌜(rds a V (aft a V) 0 c).after w t (Y w) X⌝ ∗ owns (c : Thread nD τ) ((cfg0.win w).stage (cfg0.slots t w)) fullShare X))).symm
  iintro ⟨HΦ, HO, H0, H1, H2, H3, H4⟩
  iapply (body0_run c _ (hstage0_0 0) _ (hstage0_1 0) _ (hstage0_2 0) _ (hstage0_3 0) _ (hstage0_4 0)
    (Y 0) (Y 1) (Y 2) (Y 3) (Y 4) Set.univ _)
  isplitl [H0]; · iexact H0
  isplitl [H1]; · iexact H1
  isplitl [H2]; · iexact H2
  isplitl [H3]; · iexact H3
  isplitl [H4]; · iexact H4
  iintro ⟨H0, H1, ⟨%Z, %hZ, H2⟩, H3, H4⟩
  isplitl [HΦ]; · iexact HΦ
  isplitl [HO]; · iexact HO
  iapply hpost
  isplitl [H0]; · iexists (Y 0); isplitr; (· ipureintro; rfl); iexact H0
  isplitl [H1]; · iexists (Y 1); isplitr; (· ipureintro; rfl); iexact H1
  isplitl [H2]; · iexists Z; isplitr; (· ipureintro; exact ⟨d0, e0 ▸ hZ⟩); iexact H2
  isplitl [H3]; · iexists (k0_pay4 (Y 0)); isplitr; (· ipureintro; exact ⟨d0, congrArg _ e0⟩); iexact H3
  iexists (k0_pay5 (Y 1)); isplitr; (· ipureintro; exact ⟨d1, congrArg _ e1⟩); iexact H4

/-- A cut is read off the block's index. -/
theorem clip_of_index {G : Pipeline.Grid} {n : Nat} (ix : G.Coords → Fin n → Nat) (sz sh : Fin n → Nat) (i i' : G.Coords) (h : ix i = ix i') :
    (fun a => Pipeline.Clip.of (ix i a) (sz a) (sh a)) = fun a => Pipeline.Clip.of (ix i' a) (sz a) (sh a) := by rw [h]

theorem body_obligation1 (a : Tabs F) (V : Vals F) (c : Dev nD) :
    (rds a V (aft a V) 1 c).BodyObligation (defs₀ (F := F)) 𝒱₀ () Set.univ := fun t Y hY => by
  obtain ⟨d0, e0⟩ := finds_fet a V 1 c 0 rfl (fun _ _ _ => rfl) (fun _ _ _ h => h) t _ (hY 0)
  obtain ⟨d1, e1⟩ := finds_fet a V 1 c 1 rfl (fun _ _ h => clip_of_index cc1_transform_1 _ _ _ _ h) (fun _ _ _ h => h) t _ (hY 1)
  obtain ⟨d2, e2⟩ := finds_fet a V 1 c 2 rfl (fun _ _ h => clip_of_index cc1_transform_2 _ _ _ _ h) (fun _ _ _ h => h) t _ (hY 2)
  obtain ⟨d3, e3⟩ := finds_fet a V 1 c 3 rfl (fun _ _ h => clip_of_index cc1_transform_3 _ _ _ _ h) (fun _ _ _ h => h) t _ (hY 3)
  obtain ⟨d4, e4⟩ := finds_fet a V 1 c 4 rfl (fun _ _ h => clip_of_index cc1_transform_4 _ _ _ _ h) (fun _ _ _ h => h) t _ (hY 4)
  rw [show (rds a V (aft a V) 1 c).Φ t.succ = (rds a V (aft a V) 1 c).Φ t.castSucc from rfl,
    show (rds a V (aft a V) 1 c).owesAt () t.succ = (rds a V (aft a V) 1 c).owesAt () t.castSucc from rfl]
  refine (sep_mono .rfl (sep_mono .rfl (Entails.of_eq (bigSep_W1 _)))).trans ?_
  have hpost := Entails.of_eq (bigSep_W1 (M := 𝕄) (fun w => iprop(∃ X, ⌜(rds a V (aft a V) 1 c).after w t (Y w) X⌝ ∗ owns (c : Thread nD τ) ((cfg1.win w).stage (cfg1.slots t w)) fullShare X))).symm
  iintro ⟨HΦ, HO, H0, H1, H2, H3, H4, H5, H6⟩
  iapply (body1_run c (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3)) _ (hstage1_4 ((cfg1.slots t 4).cast nbuf1_4))
    _ (hstage1_5 ((cfg1.slots t 5).cast nbuf1_5)) _ (hstage1_6 ((cfg1.slots t 6).cast nbuf1_6))
    (Y 0) (Y 1) (Y 2) (Y 3) (Y 4) (Y 5) (Y 6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [HO]; · iexact HO
  iapply hpost
  isplitl [H0]; · iexists (Y 0); isplitr; (· ipureintro; rfl); iexact H0
  isplitl [H1]; · iexists (Y 1); isplitr; (· ipureintro; rfl); iexact H1
  isplitl [H2]; · iexists (Y 2); isplitr; (· ipureintro; rfl); iexact H2
  isplitl [H3]; · iexists (Y 3); isplitr; (· ipureintro; rfl); iexact H3
  isplitl [H4]; · iexists (Y 4); isplitr; (· ipureintro; rfl); iexact H4
  isplitl [H5]
  · iexists (k1_pay2 (Y 0) (Y 1) (Y 2)); isplitr
    · ipureintro; exact ⟨d0, d1, d2, by rw [e0, e1, e2]⟩
    iexact H5
  · iexists (k1_pay3 (Y 0) (Y 3) (Y 4)); isplitr
    · ipureintro; exact ⟨d0, d3, d4, by rw [e0, e3, e4]⟩
    iexact H6

end Cert.KernelIdeal.Hand

end
-- ==== Proof.KRegion2.lean ====
/-
  The body of the last region does what the region's proof data ask of it.
-/
module

public import proofs.«01_k».proof.Proof.KRegion01

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (RDat WinFacts PreFacts unscopedRest unscopedRestP prefHeld arrRef pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A whole buffer's memref owned at `X` is the buffer held at some contents reading `X`. -/
theorem whole_of_owns (c : Dev nD) {sp : Space} {S : Shape} {e : EltTy} (M : Memref sig .tc sp S e) (hM : M.IsWhole) (X : S.Idx → Elt F e) :
    (owns (c : Thread nD τ) M fullShare X : sProp 𝕄) ⊢ iprop(∃ f, ⌜M.view.read (Elt F) f = X⌝ ∗ M.view.loc (c : Thread nD τ) ↦{fullShare} f) := by
  unfold owns; rw [hM.set_eq_univ]

/-- The table's buffer at the contents the region runs at. -/
theorem tab_owns (a : Tabs F) (c : Dev nD) :
    (prefHeld (Ix := Unit) (Name := ℕ) (U := UU) (Lvl := ℕ) (pcfgs (F := F) 2).pre c (fun _ => fullShare) (a 2).1 : sProp 𝕄)
      ⊣⊢ owns (c : Thread nD τ) (Memref.whole main_v6 : Memref sig .tc .smem S3 .i32) fullShare (fun x => (a 2).1 0 x) := by
  have e : (prefHeld (Ix := Unit) (Name := ℕ) (U := UU) (Lvl := ℕ) (pcfgs (F := F) 2).pre c (fun _ => fullShare) (a 2).1 : sProp 𝕄)
      = ((c : Thread nD τ).loc main_v6 ↦{fullShare} (a 2).1 0) := by
    unfold prefHeld
    exact bigSep_univ_eq_bigSepL [(0 : Fin 1)] (by decide) (by decide) _
  rw [e]
  constructor
  · exact pt_of_read c (Memref.whole main_v6) (Memref.isWhole_whole _) _ _ rfl
  · refine (whole_of_owns c _ (Memref.isWhole_whole _) _).trans ?_
    iintro ⟨%f, %hf, H⟩
    rw [show f = (a 2).1 0 from hf]
    iexact H

theorem body_obligation2 (a : Tabs F) (V : Vals F) (c : Dev nD) :
    (rds a V (aft a V) 2 c).BodyObligation (defs₀ (F := F)) 𝒱₀ () Set.univ := fun t Y hY => by
  obtain ⟨d0, e0⟩ := finds_fet a V 2 c 0 rfl (fun _ _ _ => rfl) (fun _ _ _ h => h) t _ (hY 0)
  obtain ⟨d1, e1⟩ := finds_fet a V 2 c 1 rfl (fun _ _ _ => rfl) (fun _ _ _ h => h) t _ (hY 1)
  obtain ⟨d2, e2⟩ := finds_fet a V 2 c 2 rfl (fun _ _ _ => rfl) (fun _ _ _ h => h) t _ (hY 2)
  obtain ⟨d3, e3⟩ := finds_fet a V 2 c 3 rfl (fun _ _ _ => rfl) (fun _ _ _ h => h) t _ (hY 3)
  obtain ⟨d4, e4⟩ := finds_fet a V 2 c 4 rfl (fun _ _ _ => rfl) (fun _ _ _ h => h) t _ (hY 4)
  obtain ⟨d5, e5⟩ := finds_fet a V 2 c 5 rfl (fun _ _ _ => rfl) (fun _ _ _ h => h) t _ (hY 5)
  obtain ⟨d6, e6⟩ := finds_fet a V 2 c 6 rfl (fun _ _ h => clip_of_index cc2_transform_6 _ _ _ _ h) (fun _ _ _ h => h) t _ (hY 6)
  obtain ⟨d7, e7⟩ := finds_fet a V 2 c 7 rfl (fun _ _ _ => rfl) (fun _ _ _ h => h) t _ (hY 7)
  obtain ⟨d8, e8⟩ := finds_fet a V 2 c 8 rfl (fun _ _ h => clip_of_index cc2_transform_8 _ _ _ _ h) (fun _ _ _ h => h) t _ (hY 8)
  have hΦ : (rds a V (aft a V) 2 c).Φ t.castSucc
      = iprop(prefHeld (Ix := Unit) (Name := ℕ) (U := UU) (Lvl := ℕ) (pcfgs (F := F) 2).pre c (fun _ => fullShare) (a 2).1
        ∗ Pipeline.scopedRest (Ix := Unit) (Name := ℕ) (U := UU) (Lvl := ℕ) spec2 c) := rfl
  rw [show (rds a V (aft a V) 2 c).Φ t.succ = (rds a V (aft a V) 2 c).Φ t.castSucc from rfl,
    show (rds a V (aft a V) 2 c).owesAt () t.succ = (rds a V (aft a V) 2 c).owesAt () t.castSucc from rfl, hΦ, scopedRest2_eq]
  refine (sep_mono .rfl (sep_mono .rfl (Entails.of_eq (bigSep_W2 _)))).trans ?_
  have hpost := Entails.of_eq (bigSep_W2 (M := 𝕄) (fun w => iprop(∃ X, ⌜(rds a V (aft a V) 2 c).after w t (Y w) X⌝
    ∗ owns (c : Thread nD τ) (((cfg2 (a 2)).win w).stage ((cfg2 (a 2)).slots t w)) fullShare X))).symm
  iintro ⟨⟨HT, R0, R1, R2, R3, R4, R5, R6, R7, R8, R9, R10, R11, R12, R13, R14, R15, R16, ⟨%f0, S0⟩, ⟨%f1, S1⟩, ⟨%f2, S2⟩, R20⟩, HO, H0, H1, H2, H3, H4, H5, H6, H7, H8, H9⟩
  ihave HT := (tab_owns a c).1 $$ HT
  ihave S0 := (pt_of_read c (Memref.whole cc2_scratch0) (Memref.isWhole_whole _) f0 f0 rfl) $$ S0
  ihave S1 := (pt_of_read c (Memref.whole cc2_scratch1) (Memref.isWhole_whole _) f1 f1 rfl) $$ S1
  ihave S2 := (pt_of_read c (Memref.whole cc2_scratch2) (Memref.isWhole_whole _) f2 f2 rfl) $$ S2
  iapply (body2_run c (grid2.coords t) (Memref.whole main_v6) (Memref.isWhole_whole _)
    _ (hstage2_0 (((cfg2 (a 2)).slots t 0).cast nbuf2_0)) _ (hstage2_1 (((cfg2 (a 2)).slots t 1).cast nbuf2_1))
    _ (hstage2_2 (((cfg2 (a 2)).slots t 2).cast nbuf2_2)) _ (hstage2_3 (((cfg2 (a 2)).slots t 3).cast nbuf2_3))
    _ (hstage2_4 (((cfg2 (a 2)).slots t 4).cast nbuf2_4)) _ (hstage2_5 (((cfg2 (a 2)).slots t 5).cast nbuf2_5))
    _ (hstage2_6 (((cfg2 (a 2)).slots t 6).cast nbuf2_6)) _ (hstage2_7 (((cfg2 (a 2)).slots t 7).cast nbuf2_7))
    _ (hstage2_8 (((cfg2 (a 2)).slots t 8).cast nbuf2_8)) _ (hstage2_9 (((cfg2 (a 2)).slots t 9).cast nbuf2_9))
    (Memref.whole cc2_scratch0) (Memref.isWhole_whole _) (Memref.whole cc2_scratch1) (Memref.isWhole_whole _) (Memref.whole cc2_scratch2) (Memref.isWhole_whole _)
    (fun x => (a 2).1 0 x) (Y 0) (Y 1) (Y 2) (Y 3) (Y 4) (Y 5) (Y 6) (Y 7) (Y 8) (Y 9) f0 f1 f2 Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  iintro ⟨HT, H0, H1, H2, H3, H4, H5, H6, H7, H8, H9, S0, S1, S2⟩
  ihave HT := (tab_owns a c).2 $$ HT
  ihave S0 := (whole_of_owns c (Memref.whole cc2_scratch0) (Memref.isWhole_whole _) _) $$ S0
  ihave S1 := (whole_of_owns c (Memref.whole cc2_scratch1) (Memref.isWhole_whole _) _) $$ S1
  ihave S2 := (whole_of_owns c (Memref.whole cc2_scratch2) (Memref.isWhole_whole _) _) $$ S2
  icases S0 with ⟨%g0, -, S0⟩
  icases S1 with ⟨%g1, -, S1⟩
  icases S2 with ⟨%g2, -, S2⟩
  isplitl [HT R0 R1 R2 R3 R4 R5 R6 R7 R8 R9 R10 R11 R12 R13 R14 R15 R16 S0 S1 S2 R20]
  · isplitl [HT]; · iexact HT
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [S0]; · iexists g0; iexact S0
    isplitl [S1]; · iexists g1; iexact S1
    isplitl [S2]; · iexists g2; iexact S2
    iexact R20
  isplitl [HO]; · iexact HO
  iapply hpost
  isplitl [H0]; · iexists (Y 0); isplitr; (· ipureintro; rfl); iexact H0
  isplitl [H1]; · iexists (Y 1); isplitr; (· ipureintro; rfl); iexact H1
  isplitl [H2]; · iexists (Y 2); isplitr; (· ipureintro; rfl); iexact H2
  isplitl [H3]; · iexists (Y 3); isplitr; (· ipureintro; rfl); iexact H3
  isplitl [H4]; · iexists (Y 4); isplitr; (· ipureintro; rfl); iexact H4
  isplitl [H5]; · iexists (Y 5); isplitr; (· ipureintro; rfl); iexact H5
  isplitl [H6]; · iexists (Y 6); isplitr; (· ipureintro; rfl); iexact H6
  isplitl [H7]; · iexists (Y 7); isplitr; (· ipureintro; rfl); iexact H7
  isplitl [H8]; · iexists (Y 8); isplitr; (· ipureintro; rfl); iexact H8
  iexists _; isplitr; swap; (· iexact H9)
  ipureintro
  refine ⟨d0, d1, d2, d3, d4, d5, d6, d7, d8, f0, f1, f2, ?_⟩
  rw [← e0, ← e1, ← e2, ← e3, ← e4, ← e5, ← e6, ← e7, ← e8]
  rfl

end Cert.KernelIdeal.Hand

end
-- ==== Proof.KSegs.lean ====
/-
  The program's pieces as segments over states that leave the regions' results unnamed: a host stretch of any member
  of a family, and a kernel region entered from any member.
-/
module

public import proofs.«01_k».proof.Proof.KRegion2
public import Idealize.ShloMosaic.Lib.Pipeline.RegionsLoop

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (RDat WinFacts PreFacts unscopedRest unscopedRestP prefHeld arrRef pin cellsGhost toksInit ucRefs HostSeg)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The records' copy of the pipeline library's algebra the regions spend. -/
abbrev EP1 : Emb (Idealize.ShloMosaic.Rounds.URounds (GSem nD τ sig) Unit) 𝕄 := embAt (A := UR sig nD τ) (B := Counters) (1 : Fin 2)
/-- The copy the program's set-up takes. -/
abbrev EP0 : Emb (Idealize.ShloMosaic.Rounds.URounds (GSem nD τ sig) Unit) 𝕄 := embAt (A := UR sig nD τ) (B := Counters) (0 : Fin 2)

/-- Region `p`'s launch ghost state on core `c`. -/
def gh (a : Tabs F) (p : Fin 3) (c : Dev nD) : sProp 𝕄 :=
  iprop(cellsGhost (pin (pcfgs (F := F)) a) EP1 p c ∗ toksInit (pin (pcfgs (F := F)) a) EP1 p c)

/-- The core's waits recorded, nothing owed. -/
abbrev ow (c : Dev nD) : sProp 𝕄 := iprop(∃ W, owes (c : Thread nD τ) (0 : CellTallies nD τ sig Unit) W)

/-- A host stretch from any member of a family of states. -/
def famSeg {O : Type} (sel : O → Dev nD → Prop) (prog : Prog (TpuEff nD τ sig (Elt F) (Pipeline.Sig Λ₀ (Fin 3) fun p => (pcfgs (F := F) p).Adm) .tc) PUnit)
    (s : O → HostSeg (Ix := Unit) (Name := ℕ) (U := UU) (Lvl := ℕ) (pcfgs (F := F)) (defs₀ (F := F)) 𝒱₀ L lv) (hprog : ∀ o, (s o).prog = prog) :
    HostSeg (Ix := Unit) (Name := ℕ) (U := UU) (Lvl := ℕ) (pcfgs (F := F)) (defs₀ (F := F)) 𝒱₀ L lv where
  prog := prog
  pre c := iprop(∃ o, ⌜sel o c⌝ ∗ (s o).pre c)
  post c := iprop(∃ o, ⌜sel o c⌝ ∗ (s o).post c)
  run c _ k K := by
    iintro ⟨Hk, Hbd, ⟨%o, %ho, Hpre⟩, Hla⟩
    have hrun := (s o).run c k K
    rw [hprog o] at hrun
    iapply hrun
    isplitl [Hk]
    · iintro ⟨Hb, Hp⟩
      iapply Hk
      isplitl [Hb]; · iexact Hb
      iexists o; isplitr; · ipureintro; exact ho
      iexact Hp
    isplitl [Hbd]; · iexact Hbd
    isplitl [Hpre]; · iexact Hpre
    iexact Hla

set_option backward.isDefEq.respectTransparency.types false in
/-- Region `p` from any member of a family of contents, to a member of the family after it. -/
def regSeg (a : Tabs F) (p : Fin 3) (hl : Pipeline.PLaunchFacts (nD := nD) (τ := τ) (pcfgs (F := F)) p)
    (hbody : ∀ V c, (rds a V (aft a V) p c).BodyObligation (defs₀ (F := F)) 𝒱₀ () Set.univ)
    {O : Type} (Vin Vout : O → Dev nD → Valuation τ sig (Elt F)) (selin selout : O → Dev nD → Prop)
    (htab : ∀ o c, selin o c → (fun k => Vin o c ((pcfgs (F := F) p).pre.ref k)) = (a p).1)
    (hstep : ∀ o c V', selin o c → Next a (fun c b => Vin o c b) (aft a (fun c b => Vin o c b)) p c V' →
      ∃ o', selout o' c ∧ (fun b : Ref sig .tc => Vout o' c b) = V')
    (R : Dev nD → sProp 𝕄) :
    HostSeg (Ix := Unit) (Name := ℕ) (U := UU) (Lvl := ℕ) (pcfgs (F := F)) (defs₀ (F := F)) 𝒱₀ L lv where
  prog := Prog.lift (.customCall (Pipeline.entry p) ())
  pre c := iprop(∃ o, ⌜selin o c⌝ ∗ StableHlo.held (c : Thread nD τ) (ucRefs τ sig) (Vin o c) ∗ ow c ∗ gh a p c ∗ R c)
  post c := iprop(∃ o, ⌜selout o c⌝ ∗ StableHlo.held (c : Thread nD τ) (ucRefs τ sig) (Vout o c) ∗ ow c ∗ R c)
  run c _ k K := by
    rw [show (Prog.lift (.customCall (Pipeline.entry p) ()) >>= k : Prog (TpuEff nD τ sig (Elt F) (Pipeline.Sig Λ₀ (Fin 3) fun p => (pcfgs (F := F) p).Adm) .tc) _)
      = .op (.customCall (Pipeline.entry p) ()) k from rfl]
    iintro ⟨Hk, Hbd, ⟨%o, %ho, Hh, HO, Hg, HR⟩, Hla⟩
    unfold gh
    icases Hg with ⟨Hc, Ht⟩
    iapply (RDat.RegionSeg.wp (pcfgs (F := F)) a (rds a (fun c b => Vin o c b) (aft a (fun c b => Vin o c b))) () (cellOf_inj a) EP1 (defs₀ (F := F)) 𝒱₀ L lv
      (regionOf a (fun c b => Vin o c b) (aft a (fun c b => Vin o c b)) p hl (hbody _)) c none (fun u h => nomatch h) k K)
    isplitl [Hk HR]
    · rw [regionOf_post]
      iintro ⟨Hb, ⟨%V', %hV', Hu⟩, HO⟩
      obtain ⟨o', ho', e⟩ := hstep o c V' ho hV'
      iapply Hk
      isplitl [Hb]; · iexact Hb
      iexists o'; isplitr; · ipureintro; exact ho'
      isplitl [Hu]
      · rw [← Pipeline.unscopedBufs_held (Ix := Unit) (Name := ℕ) (U := UU) (Lvl := ℕ) c (Vout o' c), e]; iexact Hu
      isplitl [HO]; · iexact HO
      iexact HR
    isplitl [Hbd]; · iexact Hbd
    isplitl [Hh HO]
    · rw [regionOf_pre]
      isplitr; · ipureintro; exact htab o c ho
      isplitl [Hh]
      · iapply (Entails.of_eq (Pipeline.unscopedBufs_held (Ix := Unit) (Name := ℕ) (U := UU) (Lvl := ℕ) c (Vin o c)).symm) $$ Hh
      iexact HO
    isplitl [Hla]; · iexact Hla
    isplitl [Hc]; · iexact Hc
    iexact Ht

end Cert.KernelIdeal.Hand

end
-- ==== Proof.KTab.lean ====
/-
  The tables the last region is entered with: the three counts the first region stores, sliced on the host. Any tables
  are admissible; and those the last region finds are the counts of the strategy array, whatever the regions left.
-/
module

public import proofs.«01_k».proof.Proof.KSegs
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (RDat WinFacts PreFacts unscopedRest unscopedRestP prefHeld arrRef pin)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (o : Outs (F := F))

theorem sel_lt (b : BitVec 1) (n : Nat) (hn : n < 63) : (Scalar.select b (BitVec.ofNat 32 n) 0#32).toNat < 63 := by
  unfold Scalar.select
  split
  · show (BitVec.ofNat 32 n).toNat < 63
    rw [BitVec.toNat_ofNat]; omega
  · decide

theorem block_inb (r v w : Nat) (hv : v < 63) (a : Fin 2) :
    ((![0, v] : Fin 2 → Nat) a + 1) * (![r, 256] : Fin 2 → Nat) a ≤ (![r, 16128] : Fin 2 → Nat) a := by
  match a with
  | 0 => simp
  | 1 => simp; omega

/-- Any contents of the tables name blocks inside the weights. -/
theorem ok_all (pf : pre2.Contents (Elt F)) : ok2 pf := by
  refine ⟨fun i => ⟨fun a => ?_, .inl rfl⟩, fun i => ⟨fun a => ?_, .inl rfl⟩, fun i => ⟨fun a => ?_, .inl rfl⟩⟩
  · exact block_inb 768 _ 0 (sel_lt _ (i 0).val (i 0).isLt) a
  · exact block_inb 4000 _ 0 (sel_lt _ (i 0).val (i 0).isLt) a
  · exact block_inb 2000 _ 0 (sel_lt _ (i 0).val (i 0).isLt) a

/-- The table of a strategy array: its three counts. -/
def cntTab (A : S2048x16.Idx → Elt F .f32) : S3.Idx → Elt F .i32 :=
  fun x => if (x 0).val = 0 then cnt0 A else if (x 0).val = 1 then cnt1 A else cnt2 A

/-- The tables' contents at a strategy array. -/
def tblOf (A : S2048x16.Idx → Elt F .f32) : pre2.Contents (Elt F) := fun k =>
  match k with
  | ⟨0, _⟩ => cntTab A
  | ⟨_ + 1, h⟩ => absurd h (Nat.not_lt.2 (Nat.le_add_left _ _))

/-- The tables the three regions run at. -/
def tabs : Tabs F := fun p =>
  match p with
  | ⟨0, _⟩ => cfg0.toPCfg_adm
  | ⟨1, _⟩ => cfg1.toPCfg_adm
  | ⟨2, _⟩ => ⟨tblOf (V1 m 0 main_v1), ok_all _⟩
  | ⟨_ + 3, h⟩ => absurd h (Nat.not_lt.2 (Nat.le_add_left _ _))

/-- A window's fetch, at an index of the block the transfer moves: the array under the block's index. -/
theorem fill_read_at {G : Pipeline.Grid} (w : Pipeline.Window sig G) (t : Fin G.N) (d : w.block.Idx → Elt F w.elt)
    (f : w.arr.view.ty.Contents (Elt F)) (j : w.block.Idx) (h : ∀ a, (j a).val < w.xsize (G.coords t) a) :
    w.fill (G.coords t) d ((w.blk t).view.read (Elt F) f) j = (w.blk t).view.read (Elt F) f fun a => ⟨(j a).val, h a⟩ := by
  unfold Pipeline.Window.fill
  rw [dif_pos ((w.moved_iff _ j).mpr h)]

/-- The first region's strategy window fetches the whole array. -/
theorem fet_whole0 (a : Tabs F) (V : Vals F) (c : Dev nD) (t : Fin cfg0.N) (d : S2048x16.Idx → Elt F .f32) :
    (fet a V 0 c 0 t d : S2048x16.Idx → Elt F .f32) = V c main_v1 := by
  funext j
  refine (fill_read_at (cfg0.win 0) t d _ j fun a => (j a).isLt).trans ?_
  show V c main_v1 _ = V c main_v1 j
  congr 1
  funext a
  apply Fin.ext
  fin_cases a <;> simp [Pipeline.Window.blk] <;> rfl

theorem whole_cnt : win0_2.WholeAt (⟨0, by decide⟩ : Fin grid0.N) := by decide +kernel

/-- The counts table's first three words are the counts, whatever else the first region left. -/
theorem counts_next (a : Tabs F) (V : Vals F) (c : Dev nD) (V' : (b : Ref sig .tc) → Buf (Elt F) ((c : Thread nD τ).loc b))
    (h : Next a V (aft a V) 0 c V') : CntOf (F := F) (V c main_v1) (V' main_v2_0) := by
  obtain ⟨X, ⟨Y, hY, d, hX⟩, hG⟩ := (h.1 (2 : Fin 5)).emb_eq_of_wholeAt (t₀ := ⟨0, Nat.one_pos⟩) whole_cnt
  have hX : CntOf (F := F) (V c main_v1) X := (fet_whole0 a V c ⟨0, by decide⟩ d) ▸ hX
  have e : (V' main_v2_0 : S4.Idx → Elt F .i32) = X := by
    funext j
    exact hG j
  rw [e]
  exact hX

theorem word4_at (Z : S4.Idx → Elt F .i32) (k : Nat) (hk : k < 4) (inb : ∀ a, (![k] : Fin 1 → Nat) a + S1.size a ≤ S4.size a) (v : BitVec 32)
    (h : word4 Z ![k] inb = fun _ => v) (j : S4.Idx) (hj : (j 0).val = k) : Z j = v := by
  have := congrFun h (ValueIdx.ix1 0)
  rw [← this]
  show Z j = Z _
  congr 1
  funext a
  fin_cases a
  apply Fin.ext
  show (j 0).val = k + 1 * 0
  omega

/-- The host's slice of the counts is the table. -/
theorem slice_cnt (A : S2048x16.Idx → Elt F .f32) (Z : S4.Idx → Elt F .i32) (h : CntOf A Z) :
    extractStridedSlice S3 ![0] Z slices_S4_S3_0 = cntTab A := by
  funext x
  unfold extractStridedSlice
  obtain ⟨h0, h1, h2⟩ := h
  have hx : (x 0).val < 3 := (x 0).isLt
  unfold cntTab
  have e2 : ¬ (x 0).val = 0 → ¬ (x 0).val = 1 → (x 0).val = 2 := by omega
  split_ifs with e0 e1
  · exact word4_at Z 0 (by omega) _ _ h0 _ ((Nat.zero_add _).trans e0)
  · exact word4_at Z 1 (by omega) _ _ h1 _ ((Nat.zero_add _).trans e1)
  · exact word4_at Z 2 (by omega) _ _ h2 _ ((Nat.zero_add _).trans (e2 e0 e1))

/-- The contents the second region is entered with, and the third's, hold the counts the first region left. -/
theorem V11_table (c : Dev nD) : (V11 m o c main_v6 : S3.Idx → Elt F .i32) = extractStridedSlice S3 ![0] (V2 m o c main_v2_0 : S4.Idx → Elt F .i32) slices_S4_S3_0 := by
  rw [V11_of m o c _ (by decide), V10_of m o c _ (by decide), V9_of m o c _ (by decide), V8_of m o c _ (by decide),
    V7_of m o c _ (by decide), V6_of m o c _ (by decide)]
  rw [show (V5 m o c main_v6 : S3.Idx → Elt F .i32) = extractStridedSlice S3 ![0] (V4 m o c main_v2_0 : S4.Idx → Elt F .i32) slices_S4_S3_0 from by
    unfold V5; after_results_simp]
  rw [V4_of m o c _ (by decide), V3_of m o c _ (by decide)]

end Cert.KernelIdeal.Hand

end
-- ==== Proof.KChain.lean ====
/-
  The program's states between its pieces, named by what the three regions left: each is one the region may leave of the
  state before it. A region's step extends the names by one, and the tables the last region finds are those it runs at.
-/
module

public import proofs.«01_k».proof.Proof.KTab

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (RDat WinFacts PreFacts unscopedRest unscopedRestP prefHeld arrRef pin cellsGhost toksInit ucRefs HostSeg)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- What the regions left, with item `k`'s results on core `c` replaced. -/
def put (o : Outs (F := F)) (k : ℕ) (c : Dev nD) (V' : (b : Ref sig .tc) → Buf (Elt F) ((c : Thread nD τ).loc b)) : Outs (F := F) :=
  fun k' r c' => if k' = k then (Subsingleton.elim c c' : c = c') ▸ V' r else o k' r c'

theorem put_same (o : Outs (F := F)) (k : ℕ) (c : Dev nD) (V' : (b : Ref sig .tc) → Buf (Elt F) ((c : Thread nD τ).loc b)) (r : Ref sig .tc) :
    put o k c V' k r c = V' r := by
  unfold put
  rw [if_pos rfl]

theorem put_other (o : Outs (F := F)) (k k' : ℕ) (c : Dev nD) (V' : (b : Ref sig .tc) → Buf (Elt F) ((c : Thread nD τ).loc b)) (h : k' ≠ k)
    (r : Ref sig .tc) (c' : Dev nD) : put o k c V' k' r c' = o k' r c' := by
  unfold put
  rw [if_neg h]

/-- The states up to the last region read only what the first two left; those up to the second what the first left. -/
theorem V2_congr {o o' : Outs (F := F)} (c : Dev nD) (h : ∀ r, o' 2 r c = o 2 r c) : V2 m o' c = V2 m o c := by
  unfold V2; rw [h, h, h]

theorem V3_congr {o o' : Outs (F := F)} (c : Dev nD) (h : ∀ r, o' 2 r c = o 2 r c) : V3 m o' c = V3 m o c := by
  unfold V3; rw [V2_congr m c h]

theorem V4_congr {o o' : Outs (F := F)} (c : Dev nD) (h : ∀ r, o' 2 r c = o 2 r c) (h4 : ∀ r, o' 4 r c = o 4 r c) : V4 m o' c = V4 m o c := by
  unfold V4; rw [V3_congr m c h, h4, h4]

theorem V11_congr {o o' : Outs (F := F)} (c : Dev nD) (h : ∀ r, o' 2 r c = o 2 r c) (h4 : ∀ r, o' 4 r c = o 4 r c) : V11 m o' c = V11 m o c := by
  unfold V11 V10 V9 V8 V7 V6 V5; rw [V4_congr m c h h4]

/-- A state's contents, by buffer. -/
abbrev bufsOf (V : Dev nD → Valuation τ sig (Elt F)) : Vals F := fun c b => V c b

/-- The second state is one the first region may leave. -/
def sel2 (o : Outs (F := F)) (c : Dev nD) : Prop :=
  Next (tabs m) (bufsOf (V1 m)) (aft (tabs m) (bufsOf (V1 m))) 0 c (fun b => V2 m o c b)
/-- and the fourth one the second region may leave of the third, -/
def sel4 (o : Outs (F := F)) (c : Dev nD) : Prop :=
  sel2 m o c ∧ Next (tabs m) (bufsOf (V3 m o)) (aft (tabs m) (bufsOf (V3 m o))) 1 c (fun b => V4 m o c b)
/-- and the last one the third region may leave of the one it is entered with. -/
def sel12 (o : Outs (F := F)) (c : Dev nD) : Prop :=
  sel4 m o c ∧ Next (tabs m) (bufsOf (V11 m o)) (aft (tabs m) (bufsOf (V11 m o))) 2 c (fun b => V12 m o c b)

theorem bufs_congr {V V' : Dev nD → Valuation τ sig (Elt F)} (c : Dev nD) (h : V c = V' c) : bufsOf V = bufsOf V' := by
  funext c'
  obtain rfl : c = c' := Subsingleton.elim _ _
  funext b
  exact congrFun h _

theorem outs0 : ∀ w, (spec0 w).isOut = true → arrRef spec0 w ∈ ([main_v2_0, main_v2_1, main_v2_2] : List (Ref sig .tc)) := by decide
theorem outs1 : ∀ w, (spec1 w).isOut = true → arrRef spec1 w ∈ ([main_v5_0, main_v5_1] : List (Ref sig .tc)) := by decide
theorem outs2 : ∀ w, (spec2 w).isOut = true → arrRef spec2 w ∈ ([main_v12] : List (Ref sig .tc)) := by decide

theorem step0 (o : Outs (F := F)) (c : Dev nD) (V' : (b : Ref sig .tc) → Buf (Elt F) ((c : Thread nD τ).loc b))
    (h : Next (tabs m) (bufsOf (V1 m)) (aft (tabs m) (bufsOf (V1 m))) 0 c V') :
    ∃ o', sel2 m o' c ∧ (fun b : Ref sig .tc => V2 m o' c b) = V' := by
  have e : (fun b : Ref sig .tc => V2 m (put o 2 c V') c b) = V' := by
    funext b
    by_cases hb : b ∈ ([main_v2_0, main_v2_1, main_v2_2] : List (Ref sig .tc))
    · simp only [List.mem_cons, List.not_mem_nil, or_false] at hb
      obtain rfl | rfl | rfl := hb
      · simp only [V2, put_same]
        rw [Function.update_of_ne (by decide), Function.update_of_ne (by decide), Function.update_self]
      · simp only [V2, put_same]
        rw [Function.update_of_ne (by decide), Function.update_self]
      · simp only [V2, put_same]
        rw [Function.update_self]
    · rw [V2_of m _ c b hb]
      refine (h.2 b fun w hw hbw => hb ?_).symm
      subst hbw
      exact outs0 w hw
  exact ⟨put o 2 c V', by unfold sel2; rw [e]; exact h, e⟩

theorem step1 (o : Outs (F := F)) (c : Dev nD) (V' : (b : Ref sig .tc) → Buf (Elt F) ((c : Thread nD τ).loc b)) (ho : sel2 m o c)
    (h : Next (tabs m) (bufsOf (V3 m o)) (aft (tabs m) (bufsOf (V3 m o))) 1 c V') :
    ∃ o', sel4 m o' c ∧ (fun b : Ref sig .tc => V4 m o' c b) = V' := by
  have h2 : ∀ r, put o 4 c V' 2 r c = o 2 r c := fun r => put_other o 4 2 c V' (by decide) r c
  have e : (fun b : Ref sig .tc => V4 m (put o 4 c V') c b) = V' := by
    funext b
    by_cases hb : b ∈ ([main_v5_0, main_v5_1] : List (Ref sig .tc))
    · simp only [List.mem_cons, List.not_mem_nil, or_false] at hb
      obtain rfl | rfl := hb
      · simp only [V4, put_same]
        rw [Function.update_of_ne (by decide), Function.update_self]
      · simp only [V4, put_same]
        rw [Function.update_self]
    · rw [V4_of m _ c b hb, V3_congr m c h2]
      refine (h.2 b fun w hw hbw => hb ?_).symm
      subst hbw
      exact outs1 w hw
  refine ⟨put o 4 c V', ⟨?_, ?_⟩, e⟩
  · unfold sel2; rw [V2_congr m c h2]; exact ho
  · rw [e, bufs_congr c (V3_congr m c h2)]; exact h

theorem step2 (o : Outs (F := F)) (c : Dev nD) (V' : (b : Ref sig .tc) → Buf (Elt F) ((c : Thread nD τ).loc b)) (ho : sel4 m o c)
    (h : Next (tabs m) (bufsOf (V11 m o)) (aft (tabs m) (bufsOf (V11 m o))) 2 c V') :
    ∃ o', sel12 m o' c ∧ (fun b : Ref sig .tc => V12 m o' c b) = V' := by
  have h2 : ∀ r, put o 12 c V' 2 r c = o 2 r c := fun r => put_other o 12 2 c V' (by decide) r c
  have h4 : ∀ r, put o 12 c V' 4 r c = o 4 r c := fun r => put_other o 12 4 c V' (by decide) r c
  have e : (fun b : Ref sig .tc => V12 m (put o 12 c V') c b) = V' := by
    funext b
    by_cases hb : b ∈ ([main_v12] : List (Ref sig .tc))
    · simp only [List.mem_cons, List.not_mem_nil, or_false] at hb
      obtain rfl := hb
      simp only [V12, put_same]
      rw [Function.update_self]
    · rw [V12_of m _ c b hb, V11_congr m c h2 h4]
      refine (h.2 b fun w hw hbw => hb ?_).symm
      subst hbw
      exact outs2 w hw
  refine ⟨put o 12 c V', ⟨⟨?_, ?_⟩, ?_⟩, e⟩
  · unfold sel2; rw [V2_congr m c h2]; exact ho.1
  · rw [V4_congr m c h2 h4, bufs_congr c (V3_congr m c h2)]; exact ho.2
  · rw [e, bufs_congr c (V11_congr m c h2 h4)]; exact h

/-- The tables the last region finds are those it runs at. -/
theorem table_found (o : Outs (F := F)) (c : Dev nD) (h : sel2 m o c) :
    (fun k => V11 m o c ((pcfgs (F := F) 2).pre.ref k)) = (tabs m 2).1 := by
  obtain rfl : c = 0 := Subsingleton.elim _ _
  funext k
  match k with
  | ⟨0, _⟩ => exact (V11_table m o 0).trans (slice_cnt _ _ (counts_next (tabs m) (bufsOf (V1 m)) 0 _ h))
  | ⟨_ + 1, h⟩ => exact absurd h (Nat.not_lt.2 (Nat.le_add_left _ _))

end Cert.KernelIdeal.Hand

end
-- ==== Proof.KRun.lean ====
/-
  The whole program runs: from any memory with zero counters it terminates, the arguments as launched, every counter at
  zero, and the result the last of a chain of states each of which its region may leave of the one before.
-/
module

public import proofs.«01_k».proof.Proof.KChain

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (RDat WinFacts PreFacts unscopedRest unscopedRestP prefHeld arrRef pin cellsGhost toksInit ucRefs HostSeg)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ
open Idealize.ShloMosaic.Rounds
open Idealize.ShloMosaic.Pipeline (Seg)

variable (m : (ℓ : Loc nD τ sig) → Buf (Elt F) ℓ)

/-- What a core holds beside its buffers before the first region, between regions, and after the last. -/
abbrev rest : Fin 4 → Dev nD → sProp 𝕄 := fun j c =>
  match j with
  | ⟨0, _⟩ => iprop(ow c ∗ gh (tabs m) 0 c ∗ gh (tabs m) 1 c ∗ gh (tabs m) 2 c)
  | ⟨1, _⟩ => iprop(ow c ∗ gh (tabs m) 1 c ∗ gh (tabs m) 2 c)
  | ⟨2, _⟩ => iprop(ow c ∗ gh (tabs m) 2 c)
  | ⟨_ + 3, _⟩ => ow c

/-- The three regions' segments. -/
def reg0 : HostSeg (Ix := Unit) (Name := ℕ) (U := UU) (Lvl := ℕ) (pcfgs (F := F)) (defs₀ (F := F)) 𝒱₀ L lv :=
  regSeg (tabs m) 0 launch0 (body_obligation0 (tabs m)) (fun (_ : Outs (F := F)) c => V1 m c) (V2 m) (fun _ _ => True) (sel2 m)
    (fun _ _ _ => funext fun k => k.elim0) (fun o c V' _ h => step0 m o c V' h) fun c => iprop(gh (tabs m) 1 c ∗ gh (tabs m) 2 c)

def reg1 : HostSeg (Ix := Unit) (Name := ℕ) (U := UU) (Lvl := ℕ) (pcfgs (F := F)) (defs₀ (F := F)) 𝒱₀ L lv :=
  regSeg (tabs m) 1 launch1 (body_obligation1 (tabs m)) (V3 m) (V4 m) (sel2 m) (sel4 m)
    (fun _ _ _ => funext fun k => k.elim0) (fun o c V' ho h => step1 m o c V' ho h) fun c => gh (tabs m) 2 c

def reg2 : HostSeg (Ix := Unit) (Name := ℕ) (U := UU) (Lvl := ℕ) (pcfgs (F := F)) (defs₀ (F := F)) 𝒱₀ L lv :=
  regSeg (tabs m) 2 launch2 (body_obligation2 (tabs m)) (V11 m) (V12 m) (sel4 m) (sel12 m)
    (fun o c h => table_found m o c h.1) (fun o c V' ho h => step2 m o c V' ho h) fun _ => iprop(emp)

/-- The program as its segments. -/
def pieces (_ : Dev nD) : List (Pipeline.RDat.Seg (Ix := Unit) (Name := ℕ) (U := UU) (Lvl := ℕ) (pcfgs (F := F)) (tabs m)
    (rds (tabs m) (bufsOf (V0 m)) (aft (tabs m) (bufsOf (V0 m)))) () (defs₀ (F := F)) 𝒱₀ L lv) :=
  [ .host (famSeg (fun (_ : Outs (F := F)) _ => True) (StableHlo.seq hostOps0) (fun _ => seg0 m 𝒱₀ L lv (rest m)) fun _ => rfl),
    .host (reg0 m),
    .host (famSeg (sel2 m) (StableHlo.seq hostOps1) (fun o => seg2 m o 𝒱₀ L lv (rest m)) fun _ => rfl),
    .host (reg1 m),
    .host (famSeg (sel4 m) (StableHlo.seq hostOps2) (fun o => seg4 m o 𝒱₀ L lv (rest m)) fun _ => rfl),
    .host (famSeg (sel4 m) (StableHlo.seq hostOps2_1) (fun o => seg5 m o 𝒱₀ L lv (rest m)) fun _ => rfl),
    .host (famSeg (sel4 m) (StableHlo.seq hostOps2_2) (fun o => seg6 m o 𝒱₀ L lv (rest m)) fun _ => rfl),
    .host (famSeg (sel4 m) (StableHlo.seq hostOps2_3) (fun o => seg7 m o 𝒱₀ L lv (rest m)) fun _ => rfl),
    .host (famSeg (sel4 m) (StableHlo.seq hostOps2_4) (fun o => seg8 m o 𝒱₀ L lv (rest m)) fun _ => rfl),
    .host (famSeg (sel4 m) (StableHlo.seq hostOps2_5) (fun o => seg9 m o 𝒱₀ L lv (rest m)) fun _ => rfl),
    .host (famSeg (sel4 m) (StableHlo.seq hostOps2_6) (fun o => seg10 m o 𝒱₀ L lv (rest m)) fun _ => rfl),
    .host (reg2 m),
    .host (famSeg (sel12 m) (StableHlo.seq hostOps3) (fun o => seg12 m o 𝒱₀ L lv (rest m)) fun _ => rfl) ]

/-- The algebra's launch value: two copies of the pipeline library's, the set-up's and the regions'. -/
def u₀ : UU :=
  (fun _ => initOf (Pipeline.cells (pin (pcfgs (F := F)) (tabs m)) (cellOf_inj (tabs m))) (Pipeline.launchToks (pin (pcfgs (F := F)) (tabs m)) (cellOf_inj (tabs m))), 1)

/-- The launch ghost state every core starts with. -/
abbrev ghosts (c : Dev nD) : sProp 𝕄 := iprop(gh (tabs m) 0 c ∗ gh (tabs m) 1 c ∗ gh (tabs m) 2 c)

/-- Two copies of one value are owned copy by copy. -/
theorem two_copies (x : UR sig nD τ) :
    (BI.own (embL (nD := nD) (τ := τ) (sig := sig) (Ix := Unit) (Val := Elt F) (Name := ℕ) (Lvl := ℕ) (B := Counters) (fun _ => x : IProdConst (Fin 2) (UR sig nD τ))) : sProp 𝕄)
      ⊢ iprop(BI.own (EP0 (F := F) x) ∗ BI.own (EP1 (F := F) x)) :=
  (own_iprod _).trans (Entails.of_eq (BI.bigSep_fin_two _))

set_option backward.isDefEq.respectTransparency.types false in
/-- The launch value makes the set-up's algebra and every core's launch ghost state. -/
theorem launch_ghosts : (ownU (u₀ m) : sProp 𝕄) ⊢ |={Set.univ}=> iprop(BI.own (EP0 (F := F) (initOf (Pipeline.cells (pin (pcfgs (F := F)) (tabs m)) (cellOf_inj (tabs m)))
    (Pipeline.launchToks (pin (pcfgs (F := F)) (tabs m)) (cellOf_inj (tabs m))))) ∗ bigSep Finset.univ (ghosts m)) := by
  unfold u₀
  iintro Hu
  ihave H := (ownU_pair _ _) $$ Hu
  icases H with ⟨HP, -⟩
  ihave HP := (two_copies _) $$ HP
  icases HP with ⟨H0, H1⟩
  imod (Pipeline.fund_ghost (pin (pcfgs (F := F)) (tabs m)) EP1 (cellOf_inj (tabs m))) $$ H1 with ⟨Hc, Ht⟩
  imodintro
  isplitl [H0]; · iexact H0
  have e : (iprop((bigSep Finset.univ fun c : Dev nD => bigSep Finset.univ fun p => cellsGhost (pin (pcfgs (F := F)) (tabs m)) EP1 p c)
      ∗ (bigSep Finset.univ fun c : Dev nD => bigSep Finset.univ fun p => (toksInit (pin (pcfgs (F := F)) (tabs m)) EP1 p c : sProp 𝕄))) : sProp 𝕄)
      = bigSep Finset.univ (ghosts m) := by
    rw [← bigSep_sep']
    refine bigSep_congr fun c _ => ?_
    rw [← bigSep_sep']
    exact bigSep_univ_eq_bigSepL [0, 1, 2] (by decide) (by decide) _
  iapply (Entails.of_eq e)
  isplitl [Hc]; · iexact Hc
  iexact Ht

/-- The state before the first piece, and after the last. -/
abbrev T₀ (c : Dev nD) : sProp 𝕄 := iprop(∃ _ : Outs (F := F), ⌜True⌝ ∗ StableHlo.held (c : Thread nD τ) (ucRefs τ sig) (V0 m c) ∗ rest m 0 c)
abbrev Tₙ (c : Dev nD) : sProp 𝕄 := iprop(∃ o : Outs (F := F), ⌜sel12 m o c⌝ ∗ StableHlo.held (c : Thread nD τ) (ucRefs τ sig) (V13 m o c))

/-- What a finished run shows of a core's memory. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10))
  ∧ ∃ o : Outs (F := F), sel12 m o c ∧ s.mem ((c.tc : Thread nD τ).loc main_v13) = V13 m o c main_v13

theorem ends_of_held (c : Dev nD) (o : Outs (F := F)) (ho : sel12 m o c) (s : MemSt nD τ sig (Elt F))
    (h : ∀ b ∈ ucRefs τ sig, s.mem ((c : Thread nD τ).1, b) = V13 m o c b) : Ends m c s := by
  have at' : ∀ r : Ref sig .tc, Proc.devRef (τ := τ) .tc r ∈ ucRefs τ sig → s.mem ((c.tc : Thread nD τ).loc r) = V13 m o c r := fun r hr => h _ hr
  have mem : ∀ r : Ref sig .tc, (Proc.devRef (τ := τ) .tc r).isScoped = false → Proc.devRef (τ := τ) .tc r ∈ ucRefs τ sig := fun r hr =>
    Finset.mem_filter.mpr ⟨StableHlo.devRef_mem_tcRefs r, by rw [hr]; decide⟩
  exact ⟨⟨(at' main_arg0 (mem _ rfl)).trans (V13_main_arg0 m o c), (at' main_arg1 (mem _ rfl)).trans (V13_main_arg1 m o c),
    (at' main_arg2 (mem _ rfl)).trans (V13_main_arg2 m o c), (at' main_arg3 (mem _ rfl)).trans (V13_main_arg3 m o c),
    (at' main_arg4 (mem _ rfl)).trans (V13_main_arg4 m o c), (at' main_arg5 (mem _ rfl)).trans (V13_main_arg5 m o c),
    (at' main_arg6 (mem _ rfl)).trans (V13_main_arg6 m o c), (at' main_arg7 (mem _ rfl)).trans (V13_main_arg7 m o c),
    (at' main_arg8 (mem _ rfl)).trans (V13_main_arg8 m o c), (at' main_arg9 (mem _ rfl)).trans (V13_main_arg9 m o c),
    (at' main_arg10 (mem _ rfl)).trans (V13_main_arg10 m o c)⟩, o, ho, at' main_v13 (mem _ rfl)⟩

theorem to_last (c : Dev nD) : (famSeg (sel4 m) (StableHlo.seq hostOps2_6) (fun o => seg10 m o 𝒱₀ L lv (rest m)) fun _ => rfl).post c ⊢ (reg2 m).pre c := by
  rw [show (famSeg (sel4 m) (StableHlo.seq hostOps2_6) (fun o => seg10 m o 𝒱₀ L lv (rest m)) fun _ => rfl).post c
      = iprop(∃ o : Outs (F := F), ⌜sel4 m o c⌝ ∗ StableHlo.held (c : Thread nD τ) (ucRefs τ sig) (V11 m o c) ∗ ow c ∗ gh (tabs m) 2 c) from rfl,
    show (reg2 m).pre c = iprop(∃ o : Outs (F := F), ⌜sel4 m o c⌝ ∗ StableHlo.held (c : Thread nD τ) (ucRefs τ sig) (V11 m o c) ∗ ow c ∗ gh (tabs m) 2 c ∗ emp) from rfl]
  iintro ⟨%o, %ho, Hh, HO, Hg⟩
  iexists o
  isplitr; · ipureintro; exact ho
  isplitl [Hh]; · iexact Hh
  isplitl [HO]; · iexact HO
  isplitl [Hg]; · iexact Hg
  iempintro

theorem from_last (c : Dev nD) : (reg2 m).post c ⊢ (famSeg (sel12 m) (StableHlo.seq hostOps3) (fun o => seg12 m o 𝒱₀ L lv (rest m)) fun _ => rfl).pre c := by
  rw [show (famSeg (sel12 m) (StableHlo.seq hostOps3) (fun o => seg12 m o 𝒱₀ L lv (rest m)) fun _ => rfl).pre c
      = iprop(∃ o : Outs (F := F), ⌜sel12 m o c⌝ ∗ StableHlo.held (c : Thread nD τ) (ucRefs τ sig) (V12 m o c) ∗ ow c) from rfl,
    show (reg2 m).post c = iprop(∃ o : Outs (F := F), ⌜sel12 m o c⌝ ∗ StableHlo.held (c : Thread nD τ) (ucRefs τ sig) (V12 m o c) ∗ ow c ∗ emp) from rfl]
  iintro ⟨%o, %ho, Hh, HO, -⟩
  iexists o
  isplitr; · ipureintro; exact ho
  isplitl [Hh]; · iexact Hh
  iexact HO

theorem to_end (c : Dev nD) : (famSeg (sel12 m) (StableHlo.seq hostOps3) (fun o => seg12 m o 𝒱₀ L lv (rest m)) fun _ => rfl).post c ⊢ iprop(Tₙ m c ∗ ow c) := by
  rw [show (famSeg (sel12 m) (StableHlo.seq hostOps3) (fun o => seg12 m o 𝒱₀ L lv (rest m)) fun _ => rfl).post c
      = iprop(∃ o : Outs (F := F), ⌜sel12 m o c⌝ ∗ StableHlo.held (c : Thread nD τ) (ucRefs τ sig) (V13 m o c) ∗ ow c) from rfl]
  iintro ⟨%o, %ho, Hh, HO⟩
  isplitl [Hh]
  · iexists o
    isplitr; · ipureintro; exact ho
    iexact Hh
  iexact HO

set_option backward.isDefEq.respectTransparency.types false in
/-- Every weakly fair run of the program from any memory with zero counters ends, as `Ends` says, every counter at zero. -/
theorem run_all (ρ : Dev nD → PrngReg) :
    θ_run defs (onTc (τ := τ) (main (F := F))) ⟨m, fun _ => 0, ρ⟩ (fun r => (∀ c : Dev nD, Ends m c r.2) ∧ r.2.sem = fun _ => 0) := by
  refine Pipeline.RDat.θ_run_regions_kit_dev_sems (pcfgs (F := F)) (tabs m) (rds (tabs m) (bufsOf (V0 m)) (aft (tabs m) (bufsOf (V0 m)))) () (cellOf_inj (tabs m)) EP0
    defs₀ 𝒱₀ L lv m ρ main (pieces m)
    (fun c Q => by
      rewrite [main_chain c, Pipeline.RDat.Seg.run_eq_chain,
        show (pieces m c).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          Prog.lift (.customCall (Pipeline.entry 2) ()),
          StableHlo.seq hostOps3 ] from rfl]
      dsimp (config := { failIfUnchanged := false }) only
      exact .rfl)
    (fun c => by simp only [pieces, Pipeline.RDat.Seg.pipes_host, Pipeline.RDat.Seg.pipes_nil]; decide) 0 (fun _ _ => rfl) (ghosts m) (u₀ m) (launch_ghosts m)
    (T₀ := T₀ m) (Tₙ := Tₙ m)
    (hch := fun c => ⟨.rfl, .rfl, .rfl, .rfl, .rfl, .rfl, .rfl, .rfl, .rfl, .rfl, .rfl, to_last m c, from_last m c, to_end m c⟩)
    (hinit := ?_) (QY := fun c s => Ends m c s) (hfin := fun c s' => ?_)
    (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (ucRefs τ sig) (V0 m c) from Pipeline.unscopedBufs_held c (V0 m c)]
    iintro ⟨⟨Hh, -, HO, -, -, Hg⟩, -⟩
    imodintro
    iexists (fun k r c' => V0 m c' r)
    isplitr; · ipureintro; trivial
    isplitl [Hh]; · iexact Hh
    isplitl [HO]; · iexists ∅; iexact HO
    iexact Hg
  · iintro ⟨⟨%o, %ho, Hh⟩, HSI⟩
    unfold StableHlo.held
    ihave Hr := (pointsTo_read_all (Pipeline.ucRefs τ sig) (fun b => ((c : Thread nD τ).1, b)) (V13 m o c) s') $$ [Hh HSI]
    · isplitl [Hh] <;> iassumption
    icases Hr with ⟨%h, HSI⟩
    imodintro
    isplitr
    · ipureintro
      exact ends_of_held m c o ho s'.mem h
    · iexact HSI

end Cert.KernelIdeal.Hand

end
-- ==== Proof.VPay.lean ====
/-
  What each stored block of the kernel is, read at an index, over the extended reals.
-/
module

public import proofs.«01_k».proof.Proof.KBody2
public import proofs.«01_k».proof.Proof.KBody0
public import proofs.«01_k».proof.Proof.Gen.ReferenceIdeal.Read
public import Idealize.ShloMosaic.Lib.Pointwise
public import Idealize.ShloMosaic.Lib.Pipeline.ValueKit.Tiles
public import Idealize.ShloMosaic.Lib.IndicatorCount

@[expose] public section

noncomputable section

namespace Cert.Math

open Cert.KernelIdeal hiding ix2
open Cert.KernelIdeal.Gen Cert.KernelIdeal.Hand
open Idealize.ShloMosaic Idealize.ShloMosaic.TcCoe Idealize.ShloMosaic.Tactic

/-- A row's strategy: 2, 1 or 0 by its attention total over the largest row's total. -/
def strat (A : Fin 2048 → Fin 16 → EReal) (r : Fin 2048) : BitVec 32 :=
  let q := Ideal.div (∑ k, A r k) (Finset.fold max (Ideal.ofBits FTy.f32 4286578688#32) (fun s => ∑ k, A s k) Finset.univ + Ideal.ofBits FTy.f32 841731191#32)
  if Ideal.ofBits FTy.f32 1060320051#32 ≤ q then 2#32 else if Ideal.ofBits FTy.f32 1050253722#32 ≤ q then 1#32 else 0#32

/-- A fold over the indices of a column is the fold over its rows. -/
theorem fold_col {β : Type} (op : β → β → β) [hc : Std.Commutative op] [ha : Std.Associative op] (b : β) {n : Nat} (f : Fin n → β) :
    Finset.fold op b (fun x : Fin n × Fin 1 => f x.1) Finset.univ = Finset.fold op b f Finset.univ := by
  have h := Finset.fold_map (op := op) (b := b) (f := fun x : Fin n × Fin 1 => f x.1) (g := (Equiv.prodUnique (Fin n) (Fin 1)).symm.toEmbedding)
    (s := (Finset.univ : Finset (Fin n)))
  rw [Finset.map_univ_equiv] at h
  exact h

theorem k0_pay3_at (A : S2048x16.Idx → EReal) (r : Fin 2048) : k0_pay3 (F := Ideal) A (ix2 r 0) = strat (fun r k => A (ix2 r k)) r := by
  pointwise [k0_pay3, strat]
  rw [fold_col max _ fun s => ∑ k, A (ix2 s k)]

open Cert.ReferenceIdeal.Read in
theorem ref_strat (x1 : S1x2048x16.Idx → EReal) (r : Fin 2048) :
    val_main_v12 (F := Ideal) x1 (ix2 0 r) = strat (fun r k => x1 (ix3 0 r k)) r := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_c, val_main_c_4,
    val_main_c_5, val_main_call0_v0, val_main_call0_v1, val_main_call1_v0, strat]

/-- A strategy is one of three. -/
theorem strat_cases (A : Fin 2048 → Fin 16 → EReal) (r : Fin 2048) : strat A r = 2#32 ∨ strat A r = 1#32 ∨ strat A r = 0#32 := by
  unfold strat
  dsimp only
  split_ifs <;> simp

/-- The hidden unit of the middle strategy: half of `z` times one plus the error function of `z` over the root of two. -/
def gelu (z : EReal) : EReal :=
  Ideal.ofBits FTy.f32 1056964608#32 * z * (1 + Ideal.erf (Ideal.div z (Ideal.sqrt (Ideal.ofBits FTy.f32 1073741824#32))))

theorem k1_pay2_at (x : S2048x768.Idx → EReal) (w : S768x1024.Idx → EReal) (b : S1x1024.Idx → EReal) (r : Fin 2048) (c : Fin 1024) :
    k1_pay2 (F := Ideal) x w b (ix2 r c) = gelu ((∑ k, x (ix2 r k) * w (ix2 k c)) + b (ix2 0 c)) := by
  pointwise [k1_pay2, k1_pay1, gelu]
  rfl

theorem k1_pay3_at (x : S2048x768.Idx → EReal) (w : S768x512.Idx → EReal) (b : S1x512.Idx → EReal) (r : Fin 2048) (c : Fin 512) :
    k1_pay3 (F := Ideal) x w b (ix2 r c) = (∑ k, x (ix2 r k) * w (ix2 k c)) + b (ix2 0 c) := by
  pointwise [k1_pay3, k1_pay1]

theorem k2_pay6_at (S : S256x128.Idx → BitVec 32) (M : S256x2000.Idx → EReal) (W : S2000x256.Idx → EReal) (B : S1x256.Idx → EReal)
    (O : S256x256.Idx → EReal) (r c : Fin 256) :
    k2_pay6 (F := Ideal) S M W B O (ix2 r c) = O (ix2 r c) + Scalar.select (IntOp.cmpi .eq (S (ix2 r 0)) 0#32) ((∑ k, M (ix2 r k) * W (ix2 k c)) + B (ix2 0 c)) 0 := by
  pointwise [k2_pay6]

theorem k2_pay23_at (S : S256x128.Idx → BitVec 32) (M : S256x4000.Idx → EReal) (W : S4000x256.Idx → EReal) (B : S1x256.Idx → EReal)
    (O : S256x256.Idx → EReal) (r c : Fin 256) :
    k2_pay23 (F := Ideal) S M W B O (ix2 r c) = O (ix2 r c) + Scalar.select (IntOp.cmpi .eq (S (ix2 r 0)) 1#32) ((∑ k, M (ix2 r k) * W (ix2 k c)) + B (ix2 0 c)) 0 := by
  pointwise [k2_pay23]

theorem k2_pay40_at (S : S256x128.Idx → BitVec 32) (M : S256x768.Idx → EReal) (W : S768x256.Idx → EReal)
    (O : S256x256.Idx → EReal) (r c : Fin 256) :
    k2_pay40 (F := Ideal) S M W O (ix2 r c) = O (ix2 r c) + Scalar.select (IntOp.cmpi .eq (S (ix2 r 0)) 2#32) (∑ k, M (ix2 r k) * W (ix2 k c)) 0 := by
  pointwise [k2_pay40]

theorem k2_pay4_at (j : S2048x256.Idx) : k2_pay4 (F := Ideal) j = 0 := by
  pointwise [k2_pay4]

theorem k0_pay4_at (A : S2048x16.Idx → EReal) (r : Fin 2048) (l : Fin 128) : k0_pay4 (F := Ideal) A (ix2 r l) = strat (fun r k => A (ix2 r k)) r := by
  rw [← k0_pay3_at]
  pointwise [k0_pay4]

theorem k0_pay5_at (x : S2048x768.Idx → EReal) (j : S2048x768.Idx) : k0_pay5 (F := Ideal) x j = x j := by
  pointwise [k0_pay5]

theorem k2_pay1_at (x : S768x256.Idx → EReal) (j : S768x256.Idx) : k2_pay1 (F := Ideal) x j = x j := by
  pointwise [k2_pay1]

theorem k2_pay2_at (x : S4000x256.Idx → EReal) (j : S4000x256.Idx) : k2_pay2 (F := Ideal) x j = x j := by
  pointwise [k2_pay2]

theorem k2_pay3_at (x : S2000x256.Idx → EReal) (j : S2000x256.Idx) : k2_pay3 (F := Ideal) x j = x j := by
  pointwise [k2_pay3]

theorem pos_of (n : Nat) (h0 : 0 < n) (hn : n ≤ 2048) : pos (BitVec.ofNat 32 n) := by
  have h : (0#32).slt (BitVec.ofNat 32 n) = true := by
    rw [BitVec.slt_eq_ult_of_msb_eq]
    · simp [BitVec.ult]; omega
    · simp [BitVec.msb_eq_decide]; omega
  unfold pos
  show IntOp.cmpi .ne (BitVec.setWidth 32 (IntOp.cmpi .sgt (BitVec.ofNat 32 n) 0#32)) 0#32 = 1#1
  have e : IntOp.cmpi .sgt (BitVec.ofNat 32 n) 0#32 = 1#1 := by
    unfold IntOp.cmpi; simp [h]
  rw [e]; decide

/-- A count over the rows of one strategy is positive when some row has it. -/
theorem pos_fold (f : Fin 2048 → BitVec 32) (k : BitVec 32) (r : Fin 2048) (h : f r = k) :
    pos (Finset.fold IntOp.addi (0#32) (fun x : Fin 2048 × Fin 1 => BitVec.setWidth 32 (IntOp.cmpi .eq (f x.1) k)) Finset.univ) := by
  rw [fold_col IntOp.addi _ fun s => BitVec.setWidth 32 (IntOp.cmpi .eq (f s) k), IndicatorCount.fold_addi_setWidth_eq_card]
  refine pos_of _ (Finset.card_pos.2 ⟨r, ?_⟩) ?_
  · rw [Finset.mem_filter]
    refine ⟨Finset.mem_univ _, ?_⟩
    rw [h]; simp [IntOp.cmpi]
  · exact (Finset.card_le_univ _).trans (by simp)

theorem pos_cnt0 (A : S2048x16.Idx → EReal) (r : Fin 2048) (h : strat (fun r k => A (ix2 r k)) r = 0#32) : pos (cnt0 (F := Ideal) A) := by
  have e : cnt0 (F := Ideal) A = Finset.fold IntOp.addi (0#32) (fun x : Fin 2048 × Fin 1 => BitVec.setWidth 32 (IntOp.cmpi .eq (k0_pay3 (F := Ideal) A (ix2 x.1 0)) 0#32)) Finset.univ := by
    pointwise [cnt0, k0_pay6]
  rw [e]
  exact pos_fold (fun s => k0_pay3 (F := Ideal) A (ix2 s 0)) _ r (by rw [k0_pay3_at]; exact h)

theorem pos_cnt1 (A : S2048x16.Idx → EReal) (r : Fin 2048) (h : strat (fun r k => A (ix2 r k)) r = 1#32) : pos (cnt1 (F := Ideal) A) := by
  have e : cnt1 (F := Ideal) A = Finset.fold IntOp.addi (0#32) (fun x : Fin 2048 × Fin 1 => BitVec.setWidth 32 (IntOp.cmpi .eq (k0_pay3 (F := Ideal) A (ix2 x.1 0)) 1#32)) Finset.univ := by
    pointwise [cnt1, k0_pay1, k0_pay7]
  rw [e]
  exact pos_fold (fun s => k0_pay3 (F := Ideal) A (ix2 s 0)) _ r (by rw [k0_pay3_at]; exact h)

theorem pos_cnt2 (A : S2048x16.Idx → EReal) (r : Fin 2048) (h : strat (fun r k => A (ix2 r k)) r = 2#32) : pos (cnt2 (F := Ideal) A) := by
  have e : cnt2 (F := Ideal) A = Finset.fold IntOp.addi (0#32) (fun x : Fin 2048 × Fin 1 => BitVec.setWidth 32 (IntOp.cmpi .eq (k0_pay3 (F := Ideal) A (ix2 x.1 0)) 2#32)) Finset.univ := by
    pointwise [cnt2, k0_pay2]
  rw [e]
  exact pos_fold (fun s => k0_pay3 (F := Ideal) A (ix2 s 0)) _ r (by rw [k0_pay3_at]; exact h)

/-- One strategy's share of the output, with its bias. -/
def share0 (S : S2048x128.Idx → BitVec 32) (M : S2048x2000.Idx → EReal) (W : S2000x256.Idx → EReal) (B : S1x256.Idx → EReal)
    (O : S2048x256.Idx → EReal) : S2048x256.Idx → EReal := fun j =>
  O (ix2 (j 0) (j 1)) + Scalar.select (IntOp.cmpi .eq (S (ix2 (j 0) 0)) 0#32) ((∑ k, M (ix2 (j 0) k) * W (ix2 k (j 1))) + B (ix2 0 (j 1))) 0

/-- The middle strategy's. -/
def share1 (S : S2048x128.Idx → BitVec 32) (M : S2048x4000.Idx → EReal) (W : S4000x256.Idx → EReal) (B : S1x256.Idx → EReal)
    (O : S2048x256.Idx → EReal) : S2048x256.Idx → EReal := fun j =>
  O (ix2 (j 0) (j 1)) + Scalar.select (IntOp.cmpi .eq (S (ix2 (j 0) 0)) 1#32) ((∑ k, M (ix2 (j 0) k) * W (ix2 k (j 1))) + B (ix2 0 (j 1))) 0

/-- The full strategy's, which has no bias. -/
def share2 (S : S2048x128.Idx → BitVec 32) (M : S2048x768.Idx → EReal) (W : S768x256.Idx → EReal)
    (O : S2048x256.Idx → EReal) : S2048x256.Idx → EReal := fun j =>
  O (ix2 (j 0) (j 1)) + Scalar.select (IntOp.cmpi .eq (S (ix2 (j 0) 0)) 2#32) (∑ k, M (ix2 (j 0) k) * W (ix2 k (j 1))) 0

/-- A load of a band of rows, at an index: the array that many rows further down. -/
theorem ld_band {N n : Nat} {α : EltTy → Type} {e : EltTy} (X : (⟨2, ![N, n]⟩ : Shape).Idx → α e) (b : Nat) (z : Nat)
    (inb : ∀ a, (![b, 0] : Fin 2 → Nat) a + (![z, n] : Fin 2 → Nat) a ≤ (![N, n] : Fin 2 → Nat) a) (r : Fin z) (c : Fin n) (hb : b + r.val < N) :
    View.ld (Val := α) (e' := e) X (Rect.unit (s := ⟨2, ![N, n]⟩) ![b, 0] ![z, n] inb) (ix2 r c) = X (ix2 ⟨b + r.val, hb⟩ c) := by
  refine View.ld_unit_apply_of X _ _ _ _ _ fun a => ?_
  fin_cases a
  · rfl
  · show c.val = 0 + c.val; omega

theorem band_emb (b : Nat) (hO : ∀ a, (![b, 0] : Fin 2 → Nat) a + S256x256.size a ≤ S2048x256.size a) (r c : Fin 256) (hb : b + r.val < 2048) :
    (Rect.unit (s := S2048x256) ![b, 0] S256x256.size hO).emb (ix2 r c) = ix2 ⟨b + r.val, hb⟩ c := by
  funext a; apply Fin.ext; rw [Rect.emb_apply]; fin_cases a
  · show b + 1 * r.val = b + r.val; omega
  · show 0 + 1 * c.val = c.val; omega

theorem tile0_at (S : S2048x128.Idx → BitVec 32) (M : S2048x2000.Idx → EReal) (W : S2000x256.Idx → EReal) (B : S1x256.Idx → EReal)
    (O : S2048x256.Idx → EReal) (b : Nat) (hS : ∀ a, (![b, 0] : Fin 2 → Nat) a + S256x128.size a ≤ S2048x128.size a)
    (hM : ∀ a, (![b, 0] : Fin 2 → Nat) a + S256x2000.size a ≤ S2048x2000.size a) (hO : ∀ a, (![b, 0] : Fin 2 → Nat) a + S256x256.size a ≤ S2048x256.size a)
    (x : S256x256.Idx) :
    k2_pay6 (F := Ideal) (View.ld (Val := Elt Ideal) (e' := .i32) S (Rect.unit (s := S2048x128) ![b, 0] S256x128.size hS))
      (View.ld (Val := Elt Ideal) (e' := .bf16) M (Rect.unit (s := S2048x2000) ![b, 0] S256x2000.size hM)) W B
      (View.ld (Val := Elt Ideal) (e' := .f32) O (Rect.unit (s := S2048x256) ![b, 0] S256x256.size hO)) x
      = share0 S M W B O ((Rect.unit (s := S2048x256) ![b, 0] S256x256.size hO).emb x) := by
  obtain ⟨r, c, rfl⟩ : ∃ r c, x = ix2 r c := ⟨x 0, x 1, eq_ix2 x⟩
  have hb : b + r.val < 2048 := by have := hO 0; simp at this; omega
  have hM' : ∀ k, View.ld (Val := Elt Ideal) (e' := .bf16) M (Rect.unit (s := S2048x2000) ![b, 0] S256x2000.size hM) (ix2 r k) = M (ix2 ⟨b + r.val, hb⟩ k) :=
    fun k => ld_band (α := Elt Ideal) (e := .bf16) M b 256 hM r k hb
  have hS' : View.ld (Val := Elt Ideal) (e' := .i32) S (Rect.unit (s := S2048x128) ![b, 0] S256x128.size hS) (ix2 r 0) = S (ix2 ⟨b + r.val, hb⟩ 0) :=
    ld_band (α := Elt Ideal) (e := .i32) S b 256 hS r 0 hb
  have hO' : View.ld (Val := Elt Ideal) (e' := .f32) O (Rect.unit (s := S2048x256) ![b, 0] S256x256.size hO) (ix2 r c) = O (ix2 ⟨b + r.val, hb⟩ c) :=
    ld_band (α := Elt Ideal) (e := .f32) O b 256 hO r c hb
  rw [k2_pay6_at, band_emb b hO r c hb, hO', hS']
  simp only [hM']
  rfl

theorem tile1_at (S : S2048x128.Idx → BitVec 32) (M : S2048x4000.Idx → EReal) (W : S4000x256.Idx → EReal) (B : S1x256.Idx → EReal)
    (O : S2048x256.Idx → EReal) (b : Nat) (hS : ∀ a, (![b, 0] : Fin 2 → Nat) a + S256x128.size a ≤ S2048x128.size a)
    (hM : ∀ a, (![b, 0] : Fin 2 → Nat) a + S256x4000.size a ≤ S2048x4000.size a) (hO : ∀ a, (![b, 0] : Fin 2 → Nat) a + S256x256.size a ≤ S2048x256.size a)
    (x : S256x256.Idx) :
    k2_pay23 (F := Ideal) (View.ld (Val := Elt Ideal) (e' := .i32) S (Rect.unit (s := S2048x128) ![b, 0] S256x128.size hS))
      (View.ld (Val := Elt Ideal) (e' := .bf16) M (Rect.unit (s := S2048x4000) ![b, 0] S256x4000.size hM)) W B
      (View.ld (Val := Elt Ideal) (e' := .f32) O (Rect.unit (s := S2048x256) ![b, 0] S256x256.size hO)) x
      = share1 S M W B O ((Rect.unit (s := S2048x256) ![b, 0] S256x256.size hO).emb x) := by
  obtain ⟨r, c, rfl⟩ : ∃ r c, x = ix2 r c := ⟨x 0, x 1, eq_ix2 x⟩
  have hb : b + r.val < 2048 := by have := hO 0; simp at this; omega
  have hM' : ∀ k, View.ld (Val := Elt Ideal) (e' := .bf16) M (Rect.unit (s := S2048x4000) ![b, 0] S256x4000.size hM) (ix2 r k) = M (ix2 ⟨b + r.val, hb⟩ k) :=
    fun k => ld_band (α := Elt Ideal) (e := .bf16) M b 256 hM r k hb
  have hS' : View.ld (Val := Elt Ideal) (e' := .i32) S (Rect.unit (s := S2048x128) ![b, 0] S256x128.size hS) (ix2 r 0) = S (ix2 ⟨b + r.val, hb⟩ 0) :=
    ld_band (α := Elt Ideal) (e := .i32) S b 256 hS r 0 hb
  have hO' : View.ld (Val := Elt Ideal) (e' := .f32) O (Rect.unit (s := S2048x256) ![b, 0] S256x256.size hO) (ix2 r c) = O (ix2 ⟨b + r.val, hb⟩ c) :=
    ld_band (α := Elt Ideal) (e := .f32) O b 256 hO r c hb
  rw [k2_pay23_at, band_emb b hO r c hb, hO', hS']
  simp only [hM']
  rfl

theorem tile2_at (S : S2048x128.Idx → BitVec 32) (M : S2048x768.Idx → EReal) (W : S768x256.Idx → EReal)
    (O : S2048x256.Idx → EReal) (b : Nat) (hS : ∀ a, (![b, 0] : Fin 2 → Nat) a + S256x128.size a ≤ S2048x128.size a)
    (hM : ∀ a, (![b, 0] : Fin 2 → Nat) a + S256x768.size a ≤ S2048x768.size a) (hO : ∀ a, (![b, 0] : Fin 2 → Nat) a + S256x256.size a ≤ S2048x256.size a)
    (x : S256x256.Idx) :
    k2_pay40 (F := Ideal) (View.ld (Val := Elt Ideal) (e' := .i32) S (Rect.unit (s := S2048x128) ![b, 0] S256x128.size hS))
      (View.ld (Val := Elt Ideal) (e' := .bf16) M (Rect.unit (s := S2048x768) ![b, 0] S256x768.size hM)) W
      (View.ld (Val := Elt Ideal) (e' := .f32) O (Rect.unit (s := S2048x256) ![b, 0] S256x256.size hO)) x
      = share2 S M W O ((Rect.unit (s := S2048x256) ![b, 0] S256x256.size hO).emb x) := by
  obtain ⟨r, c, rfl⟩ : ∃ r c, x = ix2 r c := ⟨x 0, x 1, eq_ix2 x⟩
  have hb : b + r.val < 2048 := by have := hO 0; simp at this; omega
  have hM' : ∀ k, View.ld (Val := Elt Ideal) (e' := .bf16) M (Rect.unit (s := S2048x768) ![b, 0] S256x768.size hM) (ix2 r k) = M (ix2 ⟨b + r.val, hb⟩ k) :=
    fun k => ld_band (α := Elt Ideal) (e := .bf16) M b 256 hM r k hb
  have hS' : View.ld (Val := Elt Ideal) (e' := .i32) S (Rect.unit (s := S2048x128) ![b, 0] S256x128.size hS) (ix2 r 0) = S (ix2 ⟨b + r.val, hb⟩ 0) :=
    ld_band (α := Elt Ideal) (e := .i32) S b 256 hS r 0 hb
  have hO' : View.ld (Val := Elt Ideal) (e' := .f32) O (Rect.unit (s := S2048x256) ![b, 0] S256x256.size hO) (ix2 r c) = O (ix2 ⟨b + r.val, hb⟩ c) :=
    ld_band (α := Elt Ideal) (e := .f32) O b 256 hO r c hb
  rw [k2_pay40_at, band_emb b hO r c hb, hO', hS']
  simp only [hM']
  rfl

theorem rows0_eq (S : S2048x128.Idx → BitVec 32) (M : S2048x2000.Idx → EReal) (W : S2000x256.Idx → EReal) (B : S1x256.Idx → EReal)
    (O : S2048x256.Idx → EReal) : rows0 (F := Ideal) S M W B O = share0 S M W B O := by
  funext y
  refine View.canon_apply_of_pieces (e := .f32) (share0 S M W B O) (tiles0 (F := Ideal) S M W B O) (fun p hp => ?_) y
    (View.cover_of_tiled (s := S2048x256) _ S256x256.size rfl y)
  simp only [tiles0, List.mem_cons, List.not_mem_nil, or_false] at hp
  rcases hp with rfl | rfl | rfl | rfl | rfl | rfl | rfl | rfl <;> exact tile0_at S M W B O _ _ _ _

theorem rows1_eq (S : S2048x128.Idx → BitVec 32) (M : S2048x4000.Idx → EReal) (W : S4000x256.Idx → EReal) (B : S1x256.Idx → EReal)
    (O : S2048x256.Idx → EReal) : rows1 (F := Ideal) S M W B O = share1 S M W B O := by
  funext y
  refine View.canon_apply_of_pieces (e := .f32) (share1 S M W B O) (tiles1 (F := Ideal) S M W B O) (fun p hp => ?_) y
    (View.cover_of_tiled (s := S2048x256) _ S256x256.size rfl y)
  simp only [tiles1, List.mem_cons, List.not_mem_nil, or_false] at hp
  rcases hp with rfl | rfl | rfl | rfl | rfl | rfl | rfl | rfl <;> exact tile1_at S M W B O _ _ _ _

theorem rows2_eq (S : S2048x128.Idx → BitVec 32) (M : S2048x768.Idx → EReal) (W : S768x256.Idx → EReal)
    (O : S2048x256.Idx → EReal) : rows2 (F := Ideal) S M W O = share2 S M W O := by
  funext y
  refine View.canon_apply_of_pieces (e := .f32) (share2 S M W O) (tiles2 (F := Ideal) S M W O) (fun p hp => ?_) y
    (View.cover_of_tiled (s := S2048x256) _ S256x256.size rfl y)
  simp only [tiles2, List.mem_cons, List.not_mem_nil, or_false] at hp
  rcases hp with rfl | rfl | rfl | rfl | rfl | rfl | rfl | rfl <;> exact tile2_at S M W O _ _ _ _

/-- The output block, read at an index: the one of the three products that the row's strategy selects, when each count is
    positive whose strategy the row has. -/
theorem out2_at (v0 v1 v2 : BitVec 32) (S : S2048x128.Idx → BitVec 32) (XB : S2048x768.Idx → EReal) (H : S2048x4000.Idx → EReal)
    (MF : S2048x2000.Idx → EReal) (BS BE : S1x256.Idx → EReal) (P : S768x256.Idx → EReal) (R : S4000x256.Idx → EReal) (U : S2000x256.Idx → EReal)
    (r : Fin 2048) (c : Fin 256) (h0 : S (ix2 r 0) = 0#32 → pos v0) (h1 : S (ix2 r 0) = 1#32 → pos v1) (h2 : S (ix2 r 0) = 2#32 → pos v2)
    (hs : S (ix2 r 0) = 2#32 ∨ S (ix2 r 0) = 1#32 ∨ S (ix2 r 0) = 0#32) :
    out2 (F := Ideal) v0 v1 v2 S XB H MF BS BE P R U (ix2 r c)
      = if S (ix2 r 0) = 2#32 then ∑ k, XB (ix2 r k) * P (ix2 k c)
        else if S (ix2 r 0) = 1#32 then (∑ k, H (ix2 r k) * R (ix2 k c)) + BS (ix2 0 c)
        else (∑ k, MF (ix2 r k) * U (ix2 k c)) + BE (ix2 0 c) := by
  unfold out2
  rw [rows0_eq, rows1_eq, rows2_eq]
  have e : ∀ a b : BitVec 32, IntOp.cmpi .eq a b = if a = b then 1#1 else 0#1 := fun a b => by
    unfold IntOp.cmpi; by_cases h : a = b
    · simp [h]
    · rw [if_neg h, beq_eq_false_iff_ne.mpr h]; rfl
  have z : k2_pay4 (F := Ideal) = fun _ => (0 : EReal) := funext k2_pay4_at
  have s0 : ∀ O, share0 S MF U BE O (ix2 r c) = O (ix2 r c) + Scalar.select (IntOp.cmpi .eq (S (ix2 r 0)) 0#32) ((∑ k, MF (ix2 r k) * U (ix2 k c)) + BE (ix2 0 c)) 0 :=
    fun _ => rfl
  have s1 : ∀ O, share1 S H R BS O (ix2 r c) = O (ix2 r c) + Scalar.select (IntOp.cmpi .eq (S (ix2 r 0)) 1#32) ((∑ k, H (ix2 r k) * R (ix2 k c)) + BS (ix2 0 c)) 0 :=
    fun _ => rfl
  have s2 : ∀ O, share2 S XB P O (ix2 r c) = O (ix2 r c) + Scalar.select (IntOp.cmpi .eq (S (ix2 r 0)) 2#32) (∑ k, XB (ix2 r k) * P (ix2 k c)) 0 :=
    fun _ => rfl
  rw [z]
  rcases hs with hs | hs | hs
  · rw [if_pos (h2 hs), s2, hs]
    split_ifs <;> simp_all [Scalar.select]
  · rw [if_pos (h1 hs)]
    split_ifs <;> simp_all [Scalar.select]
  · rw [if_pos (h0 hs)]
    split_ifs <;> simp_all [Scalar.select]

end Cert.Math

end
-- ==== Proof.VArr.lean ====
/-
  What the output arrays of the three regions hold, index by index.
-/
module

public import proofs.«01_k».proof.Proof.VPay
public import proofs.«01_k».proof.Proof.KTab

@[expose] public section

noncomputable section

namespace Cert.Math

open Cert.KernelIdeal hiding ix2
open Cert.KernelIdeal.Gen Cert.KernelIdeal.Hand
open Idealize.ShloMosaic Idealize.ShloMosaic.TcCoe Idealize.ShloMosaic.Tactic
open Idealize.ShloMosaic.Pipeline (RDat Cfg arrRef pin)
open Idealize.SL Idealize.SL.RA

section General
variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD} {rd : RDat τ Val Ix Name U Lvl cfg c}

/-- A property that whatever the body may leave has at every index of every block written back, every element of the
    array has afterwards. -/
theorem arr_forall [∀ e, Nonempty (Val e)] {w : Fin cfg.W} {G : Buf Val ((cfg.win w).arr.view.loc (c.tc : Thread nD τ))}
    (hG : rd.ArrAt w cfg.N G) (hcov : (cfg.win w).Covers)
    (P : ((cfg.win w).arr.view.loc (c.tc : Thread nD τ)).2.ty.Idx → Val ((cfg.win w).arr.view.loc (c.tc : Thread nD τ)).2.ty.elt → Prop)
    (hP : ∀ t X, rd.Leaves w t X → ∀ y : ((cfg.win w).xblock (cfg.grid.coords t)).Idx,
      P (((cfg.win w).blk t).view.emb y)
        (_root_.cast (congrArg Val ((cfg.win w).blk t).view.elt_eq.symm) (X ((cfg.win w).xinj (cfg.grid.coords t) y))))
    (harr : (cfg.win w).arr.IsWhole) (i : ((cfg.win w).arr.view.loc (c.tc : Thread nD τ)).2.ty.Idx) : P i (G i) := by
  obtain ⟨X, hX, hA⟩ := hG.exists_exact
  have e := hA (Function.update (fun _ _ _ => Classical.arbitrary _) w X) fun u _ _ => by rw [Function.update_self]
  rw [e]
  refine (rd.withAfter _).arrAt_forall_of_covers w P hcov (fun t hf y => ?_) i harr
  rw [RDat.withAfter_after, Function.update_self]
  exact hP t (X t) (hX t t.isLt hf) y

end General

theorem whole_str : win0_3.WholeAt (⟨0, by decide⟩ : Fin grid0.N) := by decide +kernel
theorem whole_xbf : win0_4.WholeAt (⟨0, by decide⟩ : Fin grid0.N) := by decide +kernel
theorem cov15 : win1_5.Covers := by decide +kernel
theorem cov16 : win1_6.Covers := by decide +kernel

variable (a : Tabs Ideal) (V : Vals Ideal) (c : Dev nD) (V' : (b : Ref sig .tc) → Buf (Elt Ideal) ((c : Thread nD τ).loc b))

theorem fet_whole1 (t : Fin cfg0.N) (d : S2048x768.Idx → EReal) :
    (fet a V 0 c 1 t d : S2048x768.Idx → EReal) = V c main_v0 := by
  funext j
  refine (fill_read_at (cfg0.win 1) t d _ j fun a => (j a).isLt).trans ?_
  show V c main_v0 _ = V c main_v0 j
  congr 1
  funext a
  apply Fin.ext
  fin_cases a <;> simp [Pipeline.Window.blk] <;> rfl

/-- The strategies the first region leaves. -/
theorem strats_next (h : Next a V (aft a V) 0 c V') : (V' main_v2_1 : S2048x128.Idx → BitVec 32) = k0_pay4 (F := Ideal) (V c main_v1) := by
  obtain ⟨X, ⟨Y, hY, d, hX⟩, hG⟩ := (h.1 (3 : Fin 5)).emb_eq_of_wholeAt (t₀ := ⟨0, Nat.one_pos⟩) whole_str
  have hX : X = k0_pay4 (F := Ideal) (V c main_v1) := hX.trans (congrArg _ (fet_whole0 a V c ⟨0, by decide⟩ d))
  rw [← hX]
  funext j
  exact hG j

/-- And the rows, which it only narrows. -/
theorem rows_next (h : Next a V (aft a V) 0 c V') : (V' main_v2_2 : S2048x768.Idx → EReal) = V c main_v0 := by
  obtain ⟨X, ⟨Y, hY, d, hX⟩, hG⟩ := (h.1 (4 : Fin 5)).emb_eq_of_wholeAt (t₀ := ⟨0, Nat.one_pos⟩) whole_xbf
  have hX : X = k0_pay5 (F := Ideal) (V c main_v0) := hX.trans (congrArg _ (fet_whole1 a V c ⟨0, by decide⟩ d))
  funext j
  refine (hG j).trans ?_
  show X j = _
  rw [hX]
  exact k0_pay5_at _ j

theorem at1_5 : ∀ t : Fin grid1.N, win1_5.index t 0 = 0 ∧ win1_5.index t 1 = t.val := by decide +kernel
theorem at1_6 : ∀ t : Fin grid1.N, win1_6.index t 0 = 0 ∧ win1_6.index t 1 = t.val := by decide +kernel
theorem at1_1 : ∀ t : Fin grid1.N, (win1_1.index t 0 = 0 ∧ win1_1.index t 1 = t.val) ∧ win1_1.xsize (grid1.coords t) 0 = 768
    ∧ win1_1.xsize (grid1.coords t) 1 = win1_5.xsize (grid1.coords t) 1 := by decide +kernel
theorem at1_2 : ∀ t : Fin grid1.N, (win1_2.index t 0 = 0 ∧ win1_2.index t 1 = t.val) ∧ win1_2.xsize (grid1.coords t) 0 = 1
    ∧ win1_2.xsize (grid1.coords t) 1 = win1_5.xsize (grid1.coords t) 1 := by decide +kernel
theorem at1_3 : ∀ t : Fin grid1.N, (win1_3.index t 0 = 0 ∧ win1_3.index t 1 = t.val) ∧ win1_3.xsize (grid1.coords t) 0 = 768
    ∧ win1_3.xsize (grid1.coords t) 1 = win1_6.xsize (grid1.coords t) 1 := by decide +kernel
theorem at1_4 : ∀ t : Fin grid1.N, (win1_4.index t 0 = 0 ∧ win1_4.index t 1 = t.val) ∧ win1_4.xsize (grid1.coords t) 0 = 1
    ∧ win1_4.xsize (grid1.coords t) 1 = win1_6.xsize (grid1.coords t) 1 := by decide +kernel

/-- The rows reach each point whole. -/
theorem fet10 (t : Fin cfg1.N) (d : S2048x768.Idx → EReal) :
    (fet a V 1 c 0 t d : S2048x768.Idx → EReal) = V c main_v0 := by
  funext j
  refine (fill_read_at (F := Ideal) (cfg1.win 0) t d _ j fun a => (j a).isLt).trans ?_
  show V c main_v0 _ = V c main_v0 j
  congr 1
  funext a
  apply Fin.ext
  fin_cases a <;> simp [Pipeline.Window.blk] <;> rfl

/-- The columns of each operand's tile are the array's, further right by the tile's place. -/
theorem fet11 (t : Fin cfg1.N) (d : S768x1024.Idx → EReal) (k : Fin 768) (y : Fin 1024) (hy : y.val < win1_5.xsize (grid1.coords t) 1) (f : Fin 4000)
    (hf : f.val = t.val * 1024 + y.val) : (fet a V 1 c 1 t d : S768x1024.Idx → EReal) (ix2 k y) = (V c main_arg3 : S768x4000.Idx → EReal) (ix2 k f) := by
  have he := at1_1 t
  refine (fill_read_at (F := Ideal) (cfg1.win 1) t d _ (ix2 k y) fun a => ?_).trans ?_
  · match a with
    | 0 => exact lt_of_lt_of_eq k.isLt he.2.1.symm
    | 1 => exact lt_of_lt_of_eq hy he.2.2.symm
  show V c main_arg3 _ = V c main_arg3 _
  congr 1
  blk_ext [he.1.1, he.1.2]

theorem fet12 (t : Fin cfg1.N) (d : S1x1024.Idx → EReal) (k : Fin 1) (y : Fin 1024) (hy : y.val < win1_5.xsize (grid1.coords t) 1) (f : Fin 4000)
    (hf : f.val = t.val * 1024 + y.val) : (fet a V 1 c 2 t d : S1x1024.Idx → EReal) (ix2 k y) = (V c main_v3 : S1x4000.Idx → EReal) (ix2 k f) := by
  have he := at1_2 t
  refine (fill_read_at (F := Ideal) (cfg1.win 2) t d _ (ix2 k y) fun a => ?_).trans ?_
  · match a with
    | 0 => exact lt_of_lt_of_eq k.isLt he.2.1.symm
    | 1 => exact lt_of_lt_of_eq hy he.2.2.symm
  show V c main_v3 _ = V c main_v3 _
  congr 1
  blk_ext [he.1.1, he.1.2]

theorem fet13 (t : Fin cfg1.N) (d : S768x512.Idx → EReal) (k : Fin 768) (y : Fin 512) (hy : y.val < win1_6.xsize (grid1.coords t) 1) (f : Fin 2000)
    (hf : f.val = t.val * 512 + y.val) : (fet a V 1 c 3 t d : S768x512.Idx → EReal) (ix2 k y) = (V c main_arg7 : S768x2000.Idx → EReal) (ix2 k f) := by
  have he := at1_3 t
  refine (fill_read_at (F := Ideal) (cfg1.win 3) t d _ (ix2 k y) fun a => ?_).trans ?_
  · match a with
    | 0 => exact lt_of_lt_of_eq k.isLt he.2.1.symm
    | 1 => exact lt_of_lt_of_eq hy he.2.2.symm
  show V c main_arg7 _ = V c main_arg7 _
  congr 1
  blk_ext [he.1.1, he.1.2]

theorem fet14 (t : Fin cfg1.N) (d : S1x512.Idx → EReal) (k : Fin 1) (y : Fin 512) (hy : y.val < win1_6.xsize (grid1.coords t) 1) (f : Fin 2000)
    (hf : f.val = t.val * 512 + y.val) : (fet a V 1 c 4 t d : S1x512.Idx → EReal) (ix2 k y) = (V c main_v4 : S1x2000.Idx → EReal) (ix2 k f) := by
  have he := at1_4 t
  refine (fill_read_at (F := Ideal) (cfg1.win 4) t d _ (ix2 k y) fun a => ?_).trans ?_
  · match a with
    | 0 => exact lt_of_lt_of_eq k.isLt he.2.1.symm
    | 1 => exact lt_of_lt_of_eq hy he.2.2.symm
  show V c main_v4 _ = V c main_v4 _
  congr 1
  blk_ext [he.1.1, he.1.2]

/-- The middle strategy's hidden units. -/
def hid (x : S2048x768.Idx → EReal) (w : S768x4000.Idx → EReal) (b : S1x4000.Idx → EReal) : S2048x4000.Idx → EReal := fun i =>
  gelu ((∑ k, x (ix2 (i 0) k) * w (ix2 k (i 1))) + b (ix2 0 (i 1)))

/-- The least strategy's features. -/
def low (x : S2048x768.Idx → EReal) (w : S768x2000.Idx → EReal) (b : S1x2000.Idx → EReal) : S2048x2000.Idx → EReal := fun i =>
  (∑ k, x (ix2 (i 0) k) * w (ix2 k (i 1))) + b (ix2 0 (i 1))

theorem hid_of (x X : S2048x768.Idx → EReal) (w : S768x1024.Idx → EReal) (w' : S768x4000.Idx → EReal) (b : S1x1024.Idx → EReal) (b' : S1x4000.Idx → EReal)
    (i : S2048x4000.Idx) (r : Fin 2048) (y : Fin 1024) (hr : r = i 0) (hx : x = X) (hw : ∀ k, w (ix2 k y) = w' (ix2 k (i 1)))
    (hb : b (ix2 0 y) = b' (ix2 0 (i 1))) : k1_pay2 (F := Ideal) x w b (ix2 r y) = hid X w' b' i := by
  rw [k1_pay2_at, hx, hr, hb]
  simp only [hw]
  rfl

theorem low_of (x X : S2048x768.Idx → EReal) (w : S768x512.Idx → EReal) (w' : S768x2000.Idx → EReal) (b : S1x512.Idx → EReal) (b' : S1x2000.Idx → EReal)
    (i : S2048x2000.Idx) (r : Fin 2048) (y : Fin 512) (hr : r = i 0) (hx : x = X) (hw : ∀ k, w (ix2 k y) = w' (ix2 k (i 1)))
    (hb : b (ix2 0 y) = b' (ix2 0 (i 1))) : k1_pay3 (F := Ideal) x w b (ix2 r y) = low X w' b' i := by
  rw [k1_pay3_at, hx, hr, hb]
  simp only [hw]
  rfl

/-- The hidden units the second region leaves. -/
theorem hidden_next (h : Next a V (aft a V) 1 c V') :
    (V' main_v5_0 : S2048x4000.Idx → EReal) = hid (V c main_v0) (V c main_arg3) (V c main_v3) := by
  funext i
  refine arr_forall (h.1 (5 : Fin 7)) cov15 (fun i v => (v : EReal) = hid (V c main_v0) (V c main_arg3) (V c main_v3) i) ?_ (Memref.isWhole_whole _) i
  rintro t X ⟨Y, hY, d0, d1, d2, hX⟩ y
  replace hX : X = k1_pay2 (F := Ideal) (fet a V 1 c 0 t d0) (fet a V 1 c 1 t d1) (fet a V 1 c 2 t d2) := hX
  have he := at1_5 t
  obtain ⟨i, hi⟩ : ∃ i : S2048x4000.Idx, i = (win1_5.blk t).view.emb y := ⟨_, rfl⟩
  have h0 : (i 0).val = (y 0).val := by rw [hi]; blk_simp [he.1]
  have h1 : (i 1).val = t.val * 1024 + (y 1).val := by rw [hi]; blk_simp [he.2]
  have hy0 : (y 0).val < 2048 := h0 ▸ (i 0).isLt
  have hy1 : (y 1).val < 1024 := lt_of_lt_of_le (y 1).isLt (win1_5.xsize_le _ 1)
  have ex : win1_5.xinj (grid1.coords t) y = ix2 (⟨(y 0).val, hy0⟩ : Fin 2048) (⟨(y 1).val, hy1⟩ : Fin 1024) := by
    funext a; apply Fin.ext; match a with
    | 0 => rfl
    | 1 => rfl
  have key : X (win1_5.xinj (grid1.coords t) y) = hid (V c main_v0) (V c main_arg3) (V c main_v3) i := by
    rw [hX, ex]
    exact hid_of _ _ _ _ _ _ i _ _ (Fin.ext h0.symm) (fet10 a V c t d0)
      (fun k => fet11 a V c t d1 k ⟨_, hy1⟩ (y 1).isLt (i 1) h1) (fet12 a V c t d2 0 ⟨_, hy1⟩ (y 1).isLt (i 1) h1)
  subst hi
  exact key

/-- And the features. -/
theorem low_next (h : Next a V (aft a V) 1 c V') :
    (V' main_v5_1 : S2048x2000.Idx → EReal) = low (V c main_v0) (V c main_arg7) (V c main_v4) := by
  funext i
  refine arr_forall (h.1 (6 : Fin 7)) cov16 (fun i v => (v : EReal) = low (V c main_v0) (V c main_arg7) (V c main_v4) i) ?_ (Memref.isWhole_whole _) i
  rintro t X ⟨Y, hY, d0, d3, d4, hX⟩ y
  replace hX : X = k1_pay3 (F := Ideal) (fet a V 1 c 0 t d0) (fet a V 1 c 3 t d3) (fet a V 1 c 4 t d4) := hX
  have he := at1_6 t
  obtain ⟨i, hi⟩ : ∃ i : S2048x2000.Idx, i = (win1_6.blk t).view.emb y := ⟨_, rfl⟩
  have h0 : (i 0).val = (y 0).val := by rw [hi]; blk_simp [he.1]
  have h1 : (i 1).val = t.val * 512 + (y 1).val := by rw [hi]; blk_simp [he.2]
  have hy0 : (y 0).val < 2048 := h0 ▸ (i 0).isLt
  have hy1 : (y 1).val < 512 := lt_of_lt_of_le (y 1).isLt (win1_6.xsize_le _ 1)
  have ex : win1_6.xinj (grid1.coords t) y = ix2 (⟨(y 0).val, hy0⟩ : Fin 2048) (⟨(y 1).val, hy1⟩ : Fin 512) := by
    funext a; apply Fin.ext; match a with
    | 0 => rfl
    | 1 => rfl
  have key : X (win1_6.xinj (grid1.coords t) y) = low (V c main_v0) (V c main_arg7) (V c main_v4) i := by
    rw [hX, ex]
    exact low_of _ _ _ _ _ _ i _ _ (Fin.ext h0.symm) (fet10 a V c t d0)
      (fun k => fet13 a V c t d3 k ⟨_, hy1⟩ (y 1).isLt (i 1) h1) (fet14 a V c t d4 0 ⟨_, hy1⟩ (y 1).isLt (i 1) h1)
  subst hi
  exact key

end Cert.Math

end
-- ==== Proof.VLast.lean ====
/-
  What the output array of the last region holds, index by index.
-/
module

public import proofs.«01_k».proof.Proof.VArr

@[expose] public section

noncomputable section

namespace Cert.Math

open Cert.KernelIdeal hiding ix2
open Cert.KernelIdeal.Gen Cert.KernelIdeal.Hand
open Idealize.ShloMosaic Idealize.ShloMosaic.TcCoe Idealize.ShloMosaic.Tactic
open Idealize.ShloMosaic.Pipeline (RDat Cfg arrRef pin)
open Idealize.SL Idealize.SL.RA

/-- The last region's configuration at tables of zeros, whose output window is that at any tables. -/
def cfgZ : Pipeline.Cfg sig Λ₀ := cfg2 (F := Ideal) ⟨fun k => match k with
  | ⟨0, _⟩ => (fun _ => 0#32 : S3.Idx → BitVec 32)
  | ⟨_ + 1, h⟩ => absurd h (Nat.not_lt.2 (Nat.le_add_left _ _)), ok_all _⟩

theorem covZ : (cfgZ.win (9 : Fin 10)).Covers := by decide +kernel

theorem coord2 : ∀ t : Fin grid2.N, (BitVec.ofNat 32 (grid2.coords t 0).val).toNat = t.val := by decide +kernel
theorem xs2 : ∀ t : Fin grid2.N, (cfgZ.win (9 : Fin 10)).xsize (grid2.coords t) (0 : Fin 2) = 2048
    ∧ (cfgZ.win (6 : Fin 10)).xsize (grid2.coords t) (0 : Fin 2) = 1 ∧ (cfgZ.win (8 : Fin 10)).xsize (grid2.coords t) (0 : Fin 2) = 1
    ∧ (cfgZ.win (6 : Fin 10)).xsize (grid2.coords t) (1 : Fin 2) = (cfgZ.win (9 : Fin 10)).xsize (grid2.coords t) (1 : Fin 2)
    ∧ (cfgZ.win (8 : Fin 10)).xsize (grid2.coords t) (1 : Fin 2) = (cfgZ.win (9 : Fin 10)).xsize (grid2.coords t) (1 : Fin 2) := by decide +kernel

/-- A place in the first block is the index. -/
theorem place_zero (n j : Nat) : j = 0 * n + j := by omega

/-- A fetch of a blocked window, at an index the transfer moves: the array where the block's place puts the index. -/
theorem fill_at {F : FTy → Type} [FloatOps F] {sig : RefSig} {G : Pipeline.Grid} (w : Pipeline.Window sig G) (hk : w.kind = .blocked) (t : Fin G.N) (d : w.block.Idx → Elt F w.elt)
    (f : w.arr.view.ty.Contents (Elt F)) (j : w.block.Idx) (i : w.shape.Idx) (h : ∀ a, (j a).val < w.xsize (G.coords t) a)
    (hi : ∀ a, (i a).val = w.index t a * w.size a + (j a).val) :
    w.fill (G.coords t) d ((w.blk t).view.read (Elt F) f) j = w.arr.view.read (Elt F) f i := by
  unfold Pipeline.Window.fill
  rw [dif_pos ((w.moved_iff _ j).mpr h)]
  show w.arr.view.read (Elt F) f ((w.rect t).emb fun a => ⟨(j a).val, h a⟩) = w.arr.view.read (Elt F) f i
  congr 1
  funext a
  apply Fin.ext
  rw [hi]
  exact w.rect_emb_val t _ a hk

variable (a : Tabs Ideal) (V : Vals Ideal) (c : Dev nD) (V' : (b : Ref sig .tc) → Buf (Elt Ideal) ((c : Thread nD τ).loc b))

theorem cov29 : ((cfg2 (a 2)).win 9).Covers := covZ

/-- The operands no tile cuts reach each point whole. -/
theorem fet20 (t : Fin grid2.N) (d : S2048x128.Idx → BitVec 32) :
    (fet a V 2 c 0 t d : S2048x128.Idx → BitVec 32) = V c main_v2_1 := by
  funext j
  refine fill_at (F := Ideal) ((cfg2 (a 2)).win 0) rfl t d _ j j (fun a => (j a).isLt) fun (x : Fin 2) => ?_
  match x with
  | 0 => exact place_zero _ _
  | 1 => exact place_zero _ _

theorem fet21 (t : Fin grid2.N) (d : S2048x768.Idx → EReal) :
    (fet a V 2 c 1 t d : S2048x768.Idx → EReal) = V c main_v2_2 := by
  funext j
  refine fill_at (F := Ideal) ((cfg2 (a 2)).win 1) rfl t d _ j j (fun a => (j a).isLt) fun (x : Fin 2) => ?_
  match x with
  | 0 => exact place_zero _ _
  | 1 => exact place_zero _ _

theorem fet22 (t : Fin grid2.N) (d : S2048x4000.Idx → EReal) :
    (fet a V 2 c 2 t d : S2048x4000.Idx → EReal) = V c main_v5_0 := by
  funext j
  refine fill_at (F := Ideal) ((cfg2 (a 2)).win 2) rfl t d _ j j (fun a => (j a).isLt) fun (x : Fin 2) => ?_
  match x with
  | 0 => exact place_zero _ _
  | 1 => exact place_zero _ _

theorem fet23 (t : Fin grid2.N) (d : S2048x2000.Idx → EReal) :
    (fet a V 2 c 3 t d : S2048x2000.Idx → EReal) = V c main_v5_1 := by
  funext j
  refine fill_at (F := Ideal) ((cfg2 (a 2)).win 3) rfl t d _ j j (fun a => (j a).isLt) fun (x : Fin 2) => ?_
  match x with
  | 0 => exact place_zero _ _
  | 1 => exact place_zero _ _

/-- A positive count names the grid point's own tile. -/
theorem sel_pos (v : BitVec 32) (h : pos v) (x : BitVec 32) : Scalar.select (Scalar.cmpi .sgt v 0#32) x 0#32 = x := by
  have e : Scalar.cmpi .sgt v 0#32 = 1#1 := by
    have : ∀ b : BitVec 1, Scalar.cmpi .ne (Scalar.extui b : BitVec 32) 0#32 = 1#1 → b = 1#1 := by decide
    exact this _ h
  rw [e]; rfl

theorem at2_4 (t : Fin grid2.N) (h : pos (tabOf a 2)) : ((cfg2 (a 2)).win 4).index t (1 : Fin 2) = t.val := by
  show (Scalar.select (Scalar.cmpi .sgt ((a 2).1.at 0 (Rect.unit (s := S3) ![2] S1.size inb_S3_S1_2) numel1_S1 : BitVec 32) 0#32) (BitVec.ofNat 32 (grid2.coords t 0).val) 0#32).toNat = t.val
  have e : ((a 2).1.at 0 (Rect.unit (s := S3) ![2] S1.size inb_S3_S1_2) numel1_S1 : BitVec 32) = tabOf a 2 := by
    refine congrArg ((a 2).1 0 : S3.Idx → BitVec 32) ?_
    funext x; fin_cases x; rfl
  rw [e, sel_pos _ h]
  exact coord2 t

theorem at2_5 (t : Fin grid2.N) (h : pos (tabOf a 1)) : ((cfg2 (a 2)).win 5).index t (1 : Fin 2) = t.val := by
  show (Scalar.select (Scalar.cmpi .sgt ((a 2).1.at 0 (Rect.unit (s := S3) ![1] S1.size inb_S3_S1_1) numel1_S1 : BitVec 32) 0#32) (BitVec.ofNat 32 (grid2.coords t 0).val) 0#32).toNat = t.val
  have e : ((a 2).1.at 0 (Rect.unit (s := S3) ![1] S1.size inb_S3_S1_1) numel1_S1 : BitVec 32) = tabOf a 1 := by
    refine congrArg ((a 2).1 0 : S3.Idx → BitVec 32) ?_
    funext x; fin_cases x; rfl
  rw [e, sel_pos _ h]
  exact coord2 t

theorem at2_7 (t : Fin grid2.N) (h : pos (tabOf a 0)) : ((cfg2 (a 2)).win 7).index t (1 : Fin 2) = t.val := by
  show (Scalar.select (Scalar.cmpi .sgt ((a 2).1.at 0 (Rect.unit (s := S3) ![0] S1.size inb_S3_S1_0) numel1_S1 : BitVec 32) 0#32) (BitVec.ofNat 32 (grid2.coords t 0).val) 0#32).toNat = t.val
  have e : ((a 2).1.at 0 (Rect.unit (s := S3) ![0] S1.size inb_S3_S1_0) numel1_S1 : BitVec 32) = tabOf a 0 := by
    refine congrArg ((a 2).1 0 : S3.Idx → BitVec 32) ?_
    funext x; fin_cases x; rfl
  rw [e, sel_pos _ h]
  exact coord2 t

/-- The columns of a weight's tile are the weight's, further right by the tile's place. -/
theorem fet24 (t : Fin grid2.N) (d : S768x256.Idx → EReal) (hp : pos (tabOf a 2)) (k : Fin 768) (y : Fin 256) (f : Fin 16128)
    (hf : f.val = t.val * 256 + y.val) : (fet a V 2 c 4 t d : S768x256.Idx → EReal) (ix2 k y) = (V c main_v7 : S768x16128.Idx → EReal) (ix2 k f) := by
  refine fill_at (F := Ideal) ((cfg2 (a 2)).win 4) rfl t d _ (ix2 k y) (ix2 k f) (fun a => (ix2 k y a).isLt) fun (x : Fin 2) => ?_
  match x with
  | 0 => exact place_zero _ _
  | 1 => rw [at2_4 a t hp]; exact hf

theorem fet25 (t : Fin grid2.N) (d : S4000x256.Idx → EReal) (hp : pos (tabOf a 1)) (k : Fin 4000) (y : Fin 256) (f : Fin 16128)
    (hf : f.val = t.val * 256 + y.val) : (fet a V 2 c 5 t d : S4000x256.Idx → EReal) (ix2 k y) = (V c main_v8 : S4000x16128.Idx → EReal) (ix2 k f) := by
  refine fill_at (F := Ideal) ((cfg2 (a 2)).win 5) rfl t d _ (ix2 k y) (ix2 k f) (fun a => (ix2 k y a).isLt) fun (x : Fin 2) => ?_
  match x with
  | 0 => exact place_zero _ _
  | 1 => rw [at2_5 a t hp]; exact hf

theorem fet27 (t : Fin grid2.N) (d : S2000x256.Idx → EReal) (hp : pos (tabOf a 0)) (k : Fin 2000) (y : Fin 256) (f : Fin 16128)
    (hf : f.val = t.val * 256 + y.val) : (fet a V 2 c 7 t d : S2000x256.Idx → EReal) (ix2 k y) = (V c main_v10 : S2000x16128.Idx → EReal) (ix2 k f) := by
  refine fill_at (F := Ideal) ((cfg2 (a 2)).win 7) rfl t d _ (ix2 k y) (ix2 k f) (fun a => (ix2 k y a).isLt) fun (x : Fin 2) => ?_
  match x with
  | 0 => exact place_zero _ _
  | 1 => rw [at2_7 a t hp]; exact hf

/-- And those of a bias's tile the bias's. -/
theorem fet26 (t : Fin grid2.N) (d : S1x256.Idx → EReal) (y : Fin 256) (hy : y.val < (cfgZ.win (9 : Fin 10)).xsize (grid2.coords t) (1 : Fin 2)) (f : Fin 16000)
    (hf : f.val = t.val * 256 + y.val) : (fet a V 2 c 6 t d : S1x256.Idx → EReal) (ix2 0 y) = (V c main_v9 : S1x16000.Idx → EReal) (ix2 0 f) := by
  refine fill_at (F := Ideal) ((cfg2 (a 2)).win 6) rfl t d _ (ix2 0 y) (ix2 0 f) (fun (x : Fin 2) => ?_) fun (x : Fin 2) => ?_
  · match x with
    | 0 => exact lt_of_lt_of_eq Nat.one_pos (xs2 t).2.1.symm
    | 1 => exact lt_of_lt_of_eq hy (xs2 t).2.2.2.1.symm
  match x with
  | 0 => exact place_zero _ _
  | 1 => exact hf.trans (congrArg (· * 256 + y.val) (coord2 t).symm)

theorem fet28 (t : Fin grid2.N) (d : S1x256.Idx → EReal) (y : Fin 256) (hy : y.val < (cfgZ.win (9 : Fin 10)).xsize (grid2.coords t) (1 : Fin 2)) (f : Fin 16000)
    (hf : f.val = t.val * 256 + y.val) : (fet a V 2 c 8 t d : S1x256.Idx → EReal) (ix2 0 y) = (V c main_v11 : S1x16000.Idx → EReal) (ix2 0 f) := by
  refine fill_at (F := Ideal) ((cfg2 (a 2)).win 8) rfl t d _ (ix2 0 y) (ix2 0 f) (fun (x : Fin 2) => ?_) fun (x : Fin 2) => ?_
  · match x with
    | 0 => exact lt_of_lt_of_eq Nat.one_pos (xs2 t).2.2.1.symm
    | 1 => exact lt_of_lt_of_eq hy (xs2 t).2.2.2.2.symm
  match x with
  | 0 => exact place_zero _ _
  | 1 => exact hf.trans (congrArg (· * 256 + y.val) (coord2 t).symm)

/-- A column of the output, in the weights' wider arrays. -/
def wide (f : Fin 16000) : Fin 16128 := ⟨f.val, by have := f.isLt; omega⟩

/-- The output: of the three products, the one that the row's strategy selects. -/
def fin (S : S2048x128.Idx → BitVec 32) (XB : S2048x768.Idx → EReal) (H : S2048x4000.Idx → EReal) (MF : S2048x2000.Idx → EReal)
    (P : S768x16128.Idx → EReal) (R : S4000x16128.Idx → EReal) (BS : S1x16000.Idx → EReal) (U : S2000x16128.Idx → EReal) (BE : S1x16000.Idx → EReal) :
    S2048x16000.Idx → EReal := fun i =>
  if S (ix2 (i 0) 0) = 2#32 then ∑ k, XB (ix2 (i 0) k) * P (ix2 k (wide (i 1)))
  else if S (ix2 (i 0) 0) = 1#32 then (∑ k, H (ix2 (i 0) k) * R (ix2 k (wide (i 1)))) + BS (ix2 0 (i 1))
  else (∑ k, MF (ix2 (i 0) k) * U (ix2 k (wide (i 1)))) + BE (ix2 0 (i 1))

theorem fin_of (v0 v1 v2 : BitVec 32) (S S' : S2048x128.Idx → BitVec 32) (XB XB' : S2048x768.Idx → EReal) (H H' : S2048x4000.Idx → EReal)
    (MF MF' : S2048x2000.Idx → EReal) (BS BE : S1x256.Idx → EReal) (P P' : S768x256.Idx → EReal) (R R' : S4000x256.Idx → EReal) (U U' : S2000x256.Idx → EReal)
    (P₁ : S768x16128.Idx → EReal) (R₁ : S4000x16128.Idx → EReal) (BS₁ : S1x16000.Idx → EReal) (U₁ : S2000x16128.Idx → EReal) (BE₁ : S1x16000.Idx → EReal)
    (i : S2048x16000.Idx) (r : Fin 2048) (y : Fin 256) (hr : r = i 0)
    (hS : S = S') (hX : XB = XB') (hH : H = H') (hM : MF = MF') (hBS : BS (ix2 0 y) = BS₁ (ix2 0 (i 1))) (hBE : BE (ix2 0 y) = BE₁ (ix2 0 (i 1)))
    (hP : pos v2 → ∀ k, P (ix2 k y) = P₁ (ix2 k (wide (i 1)))) (hR : pos v1 → ∀ k, R (ix2 k y) = R₁ (ix2 k (wide (i 1))))
    (hU : pos v0 → ∀ k, U (ix2 k y) = U₁ (ix2 k (wide (i 1))))
    (h0 : S' (ix2 (i 0) 0) = 0#32 → pos v0) (h1 : S' (ix2 (i 0) 0) = 1#32 → pos v1) (h2 : S' (ix2 (i 0) 0) = 2#32 → pos v2)
    (hs : S' (ix2 (i 0) 0) = 2#32 ∨ S' (ix2 (i 0) 0) = 1#32 ∨ S' (ix2 (i 0) 0) = 0#32) :
    out2 (F := Ideal) v0 v1 v2 S XB H MF BS BE (if pos v2 then k2_pay1 (F := Ideal) P else P') (if pos v1 then k2_pay2 (F := Ideal) R else R')
      (if pos v0 then k2_pay3 (F := Ideal) U else U') (ix2 r y) = fin S' XB' H' MF' P₁ R₁ BS₁ U₁ BE₁ i := by
  subst hr hS hX hH hM
  rw [out2_at _ _ _ _ _ _ _ _ _ _ _ _ _ _ h0 h1 h2 hs]
  unfold fin
  rcases hs with hs | hs | hs
  · rw [if_pos hs, if_pos hs, if_pos (h2 hs)]
    refine Finset.sum_congr rfl fun k _ => ?_
    rw [k2_pay1_at, hP (h2 hs)]
  · have n2 : S (ix2 (i 0) 0) ≠ 2#32 := by rw [hs]; decide
    rw [if_neg n2, if_neg n2, if_pos hs, if_pos hs, if_pos (h1 hs), hBS]
    congr 1
    refine Finset.sum_congr rfl fun k _ => ?_
    rw [k2_pay2_at, hR (h1 hs)]
  · have n2 : S (ix2 (i 0) 0) ≠ 2#32 := by rw [hs]; decide
    have n1 : S (ix2 (i 0) 0) ≠ 1#32 := by rw [hs]; decide
    rw [if_neg n2, if_neg n2, if_neg n1, if_neg n1, if_pos (h0 hs), hBE]
    congr 1
    refine Finset.sum_congr rfl fun k _ => ?_
    rw [k2_pay3_at, hU (h0 hs)]

/-- The output after the last region, each count being positive whose strategy some row has. -/
theorem last_next (h : Next a V (aft a V) 2 c V')
    (h0 : ∀ r : Fin 2048, (V c main_v2_1 : S2048x128.Idx → BitVec 32) (ix2 r 0) = 0#32 → pos (tabOf a 0))
    (h1 : ∀ r : Fin 2048, (V c main_v2_1 : S2048x128.Idx → BitVec 32) (ix2 r 0) = 1#32 → pos (tabOf a 1))
    (h2 : ∀ r : Fin 2048, (V c main_v2_1 : S2048x128.Idx → BitVec 32) (ix2 r 0) = 2#32 → pos (tabOf a 2))
    (hs : ∀ r : Fin 2048, (V c main_v2_1 : S2048x128.Idx → BitVec 32) (ix2 r 0) = 2#32 ∨ (V c main_v2_1 : S2048x128.Idx → BitVec 32) (ix2 r 0) = 1#32
      ∨ (V c main_v2_1 : S2048x128.Idx → BitVec 32) (ix2 r 0) = 0#32) :
    (V' main_v12 : S2048x16000.Idx → EReal) = fin (V c main_v2_1) (V c main_v2_2) (V c main_v5_0) (V c main_v5_1) (V c main_v7) (V c main_v8) (V c main_v9)
      (V c main_v10) (V c main_v11) := by
  funext i
  refine arr_forall (h.1 (9 : Fin 10)) (cov29 a) (fun i v => (v : EReal) = fin (V c main_v2_1) (V c main_v2_2) (V c main_v5_0) (V c main_v5_1) (V c main_v7) (V c main_v8) (V c main_v9)
      (V c main_v10) (V c main_v11) i) ?_ (Memref.isWhole_whole _) i
  rintro t X ⟨Y, hY, d0, d1, d2, d3, d4, d5, d6, d7, d8, P, R, U, hX⟩ y
  obtain ⟨i, hi⟩ : ∃ i : S2048x16000.Idx, i = (((cfg2 (a 2)).win 9).blk t).view.emb y := ⟨_, rfl⟩
  have e0 : (i 0).val = (y (0 : Fin 2)).val := by
    rw [hi]; refine (Pipeline.Window.rect_emb_val ((cfg2 (a 2)).win 9) t y (0 : Fin 2) rfl).trans ?_
    exact (place_zero _ _).symm
  have e1 : (i 1).val = t.val * 256 + (y (1 : Fin 2)).val := by
    rw [hi]; refine (Pipeline.Window.rect_emb_val ((cfg2 (a 2)).win 9) t y (1 : Fin 2) rfl).trans ?_
    exact congrArg (· * 256 + (y (1 : Fin 2)).val) (coord2 t)
  have hy0 : (y (0 : Fin 2)).val < 2048 := e0 ▸ (i 0).isLt
  have hy1 : (y (1 : Fin 2)).val < 256 := lt_of_lt_of_le (y (1 : Fin 2)).isLt (((cfg2 (a 2)).win 9).xsize_le _ (1 : Fin 2))
  have ex : ((cfg2 (a 2)).win 9).xinj (grid2.coords t) y = ix2 (⟨(y (0 : Fin 2)).val, hy0⟩ : Fin 2048) (⟨(y (1 : Fin 2)).val, hy1⟩ : Fin 256) := by
    funext x; apply Fin.ext; revert x; intro (x : Fin 2); match x with
    | 0 => rfl
    | 1 => rfl
  have key : X (((cfg2 (a 2)).win 9).xinj (grid2.coords t) y) = fin (V c main_v2_1) (V c main_v2_2) (V c main_v5_0) (V c main_v5_1) (V c main_v7) (V c main_v8) (V c main_v9)
      (V c main_v10) (V c main_v11) i := by
    rw [ex]
    refine (congrFun hX _).trans ?_
    exact fin_of _ _ _ _ _ _ _ _ _ _ _ _ _ _ _ _ _ _ _ _ _ _ _ _ i _ _ (Fin.ext e0.symm) (fet20 a V c t d0) (fet21 a V c t d1) (fet22 a V c t d2)
      (fet23 a V c t d3) (fet26 a V c t d6 ⟨_, hy1⟩ (y (1 : Fin 2)).isLt (i 1) e1) (fet28 a V c t d8 ⟨_, hy1⟩ (y (1 : Fin 2)).isLt (i 1) e1)
      (fun hp k => fet24 a V c t d4 hp k ⟨_, hy1⟩ (wide (i 1)) e1) (fun hp k => fet25 a V c t d5 hp k ⟨_, hy1⟩ (wide (i 1)) e1)
      (fun hp k => fet27 a V c t d7 hp k ⟨_, hy1⟩ (wide (i 1)) e1) (h0 _) (h1 _) (h2 _) (hs _)
  subst hi
  exact key

end Cert.Math

end
-- ==== Proof.VHost.lean ====
/-
  What the host's steps leave: reshapes of the arguments, and the weights with columns appended that no output column reads.
-/
module

public import proofs.«01_k».proof.Proof.VLast
public import proofs.«01_k».proof.Proof.KChain
public import Idealize.ShloMosaic.Lib.KernelVsHost

@[expose] public section

noncomputable section

namespace Cert.Math

open Cert.KernelIdeal hiding ix2
open Cert.KernelIdeal.Gen Cert.KernelIdeal.Hand
open Idealize.ShloMosaic Idealize.ShloMosaic.TcCoe Idealize.ShloMosaic.Tactic

variable (m : (ℓ : Loc nD τ sig) → Buf (Elt Ideal) ℓ) (o : Outs (F := Ideal)) (c : Dev nD)

theorem V1_x : (V1 m c main_v0 : S2048x768.Idx → EReal) = shapeCast S2048x768 (m (c.tc.loc main_arg0) : S1x2048x768.Idx → EReal) shapeCasts_S1x2048x768_S2048x768 := by
  unfold V1; after_results_simp; rfl

theorem V1_att : (V1 m c main_v1 : S2048x16.Idx → EReal) = shapeCast S2048x16 (m (c.tc.loc main_arg1) : S1x2048x16.Idx → EReal) shapeCasts_S1x2048x16_S2048x16 := by
  unfold V1; after_results_simp; rfl

/-- The second state is the first away from what the first region writes, and so on. -/
theorem V2_arg (r : Ref sig .tc) (h0 : r ∉ hostOps0_W) (h2 : r ∉ ([main_v2_0, main_v2_1, main_v2_2] : List (Ref sig .tc))) :
    V2 m o c r = m (c.tc.loc r) := by
  rw [V2_of m o c r h2, V1_of m c r h0]

theorem V3_x : (V3 m o c main_v0 : S2048x768.Idx → EReal) = V1 m c main_v0 := by
  rw [V3_of m o c _ (by decide), V2_of m o c _ (by decide)]

theorem V3_arg (r : Ref sig .tc) (h0 : r ∉ hostOps0_W) (h2 : r ∉ ([main_v2_0, main_v2_1, main_v2_2] : List (Ref sig .tc))) (h3 : r ∉ hostOps1_W) :
    V3 m o c r = m (c.tc.loc r) := by
  rw [V3_of m o c r h3, V2_arg m o c r h0 h2]

theorem V3_b1 : (V3 m o c main_v3 : S1x4000.Idx → EReal) = shapeCast S1x4000 (m (c.tc.loc main_arg4) : S4000.Idx → EReal) shapeCasts_S4000_S1x4000 := by
  rw [← V2_arg m o c main_arg4 (by decide) (by decide)]
  unfold V3; after_results_simp; rfl

theorem V3_b2 : (V3 m o c main_v4 : S1x2000.Idx → EReal) = shapeCast S1x2000 (m (c.tc.loc main_arg8) : S2000.Idx → EReal) shapeCasts_S2000_S1x2000 := by
  rw [← V2_arg m o c main_arg8 (by decide) (by decide)]
  unfold V3; after_results_simp; rfl

theorem V4_arg (r : Ref sig .tc) (h0 : r ∉ hostOps0_W) (h2 : r ∉ ([main_v2_0, main_v2_1, main_v2_2] : List (Ref sig .tc))) (h3 : r ∉ hostOps1_W)
    (h4 : r ∉ ([main_v5_0, main_v5_1] : List (Ref sig .tc))) : V4 m o c r = m (c.tc.loc r) := by
  rw [V4_of m o c r h4, V3_arg m o c r h0 h2 h3]

/-- A state between the second region and the third is, away from what the host wrote meanwhile, what the second region left. -/
theorem V5_arg (r : Ref sig .tc) (h : V4 m o c r = m (c.tc.loc r)) (h5 : r ∉ hostOps2_W) : V5 m o c r = m (c.tc.loc r) := by
  rw [V5_of m o c r h5, h]

theorem V7_arg (r : Ref sig .tc) (h : V5 m o c r = m (c.tc.loc r)) (h6 : r ∉ hostOps2_1_W) (h7 : r ∉ hostOps2_2_W) : V7 m o c r = m (c.tc.loc r) := by
  rw [V7_of m o c r h7, V6_of m o c r h6, h]

theorem V8_arg (r : Ref sig .tc) (h : V7 m o c r = m (c.tc.loc r)) (h8 : r ∉ hostOps2_3_W) : V8 m o c r = m (c.tc.loc r) := by
  rw [V8_of m o c r h8, h]

theorem V10_arg (r : Ref sig .tc) (h : V8 m o c r = m (c.tc.loc r)) (h9 : r ∉ hostOps2_4_W) (h10 : r ∉ hostOps2_5_W) : V10 m o c r = m (c.tc.loc r) := by
  rw [V10_of m o c r h10, V9_of m o c r h9, h]

theorem V11_of4 (r : Ref sig .tc) (h5 : r ∉ hostOps2_W) (h6 : r ∉ hostOps2_1_W) (h7 : r ∉ hostOps2_2_W) (h8 : r ∉ hostOps2_3_W) (h9 : r ∉ hostOps2_4_W)
    (h10 : r ∉ hostOps2_5_W) (h11 : r ∉ hostOps2_6_W) : V11 m o c r = V4 m o c r := by
  rw [V11_of m o c r h11, V10_of m o c r h10, V9_of m o c r h9, V8_of m o c r h8, V7_of m o c r h7, V6_of m o c r h6, V5_of m o c r h5]

/-- An output's column read through appended columns is the weight's own. -/
theorem pad_wide {n : Nat} (x : (⟨2, ![n, 16000]⟩ : Shape).Idx → EReal) (v : S_.Idx → EReal)
    (h : (⟨2, ![n, 16000]⟩ : Shape).Pads (![0, 0] : Fin 2 → Nat) ![0, 128] ![0, 0] ⟨2, ![n, 16128]⟩) (k : Fin n) (f : Fin 16000) :
    pad ⟨2, ![n, 16128]⟩ ![0, 0] ![0, 128] ![0, 0] x v h h_S_ (ix2 k (wide f)) = x (ix2 k f) :=
  pad_apply_of_inside _ _ _ x v h h_S_ _ (ix2 k f) fun (a : Fin 2) => match a with
    | 0 => by show k.val = 0 + k.val * (0 + 1); omega
    | 1 => by show f.val = 0 + f.val * (0 + 1); omega

theorem V11_full (k : Fin 768) (f : Fin 16000) : (V11 m o c main_v7 : S768x16128.Idx → EReal) (ix2 k (wide f)) = (m (c.tc.loc main_arg2) : S768x16000.Idx → EReal) (ix2 k f) := by
  rw [← V5_arg m o c main_arg2 (V4_arg m o c _ (by decide) (by decide) (by decide) (by decide)) (by decide)]
  rw [V11_of m o c _ (by decide), V10_of m o c _ (by decide), V9_of m o c _ (by decide), V8_of m o c _ (by decide), V7_of m o c _ (by decide)]
  unfold V6; after_results_simp
  exact pad_wide _ _ pads_S768x16000_S768x16128_000_01280 k f

theorem V11_sp (k : Fin 4000) (f : Fin 16000) : (V11 m o c main_v8 : S4000x16128.Idx → EReal) (ix2 k (wide f)) = (m (c.tc.loc main_arg5) : S4000x16000.Idx → EReal) (ix2 k f) := by
  rw [← V7_arg m o c main_arg5 (V5_arg m o c _ (V4_arg m o c _ (by decide) (by decide) (by decide) (by decide)) (by decide)) (by decide) (by decide)]
  rw [V11_of m o c _ (by decide), V10_of m o c _ (by decide), V9_of m o c _ (by decide)]
  unfold V8; after_results_simp
  exact pad_wide _ _ pads_S4000x16000_S4000x16128_000_01280 k f

theorem V8_arg' (r : Ref sig .tc) (h0 : r ∉ hostOps0_W) (h2 : r ∉ ([main_v2_0, main_v2_1, main_v2_2] : List (Ref sig .tc))) (h3 : r ∉ hostOps1_W)
    (h4 : r ∉ ([main_v5_0, main_v5_1] : List (Ref sig .tc))) (h5 : r ∉ hostOps2_W) (h6 : r ∉ hostOps2_1_W) (h7 : r ∉ hostOps2_2_W) (h8 : r ∉ hostOps2_3_W) :
    V8 m o c r = m (c.tc.loc r) :=
  V8_arg m o c r (V7_arg m o c r (V5_arg m o c r (V4_arg m o c r h0 h2 h3 h4) h5) h6 h7) h8

theorem V11_exp (k : Fin 2000) (f : Fin 16000) : (V11 m o c main_v10 : S2000x16128.Idx → EReal) (ix2 k (wide f)) = (m (c.tc.loc main_arg9) : S2000x16000.Idx → EReal) (ix2 k f) := by
  rw [← V8_arg' m o c main_arg9 (by decide) (by decide) (by decide) (by decide) (by decide) (by decide) (by decide) (by decide),
    ← V9_of m o c main_arg9 (by decide)]
  rw [V11_of m o c _ (by decide)]
  unfold V10; after_results_simp
  exact pad_wide _ _ pads_S2000x16000_S2000x16128_000_01280 k f

theorem V11_bsp : (V11 m o c main_v9 : S1x16000.Idx → EReal) = shapeCast S1x16000 (m (c.tc.loc main_arg6) : S16000.Idx → EReal) shapeCasts_S16000_S1x16000 := by
  rw [← V8_arg' m o c main_arg6 (by decide) (by decide) (by decide) (by decide) (by decide) (by decide) (by decide) (by decide),
    V11_of m o c _ (by decide), V10_of m o c _ (by decide)]
  unfold V9; after_results_simp; rfl

theorem V11_bexp : (V11 m o c main_v11 : S1x16000.Idx → EReal) = shapeCast S1x16000 (m (c.tc.loc main_arg10) : S16000.Idx → EReal) shapeCasts_S16000_S1x16000 := by
  rw [← V10_arg m o c main_arg10 (V8_arg' m o c _ (by decide) (by decide) (by decide) (by decide) (by decide) (by decide) (by decide) (by decide)) (by decide) (by decide)]
  unfold V11; after_results_simp; rfl

theorem V13_out : (V13 m o c main_v13 : S1x2048x16000.Idx → EReal) = shapeCast S1x2048x16000 (V12 m o c main_v12 : S2048x16000.Idx → EReal) shapeCasts_S2048x16000_S1x2048x16000 := by
  unfold V13; after_results_simp; rfl

end Cert.Math

end
-- ==== Proof.VEq.lean ====
/-
  The kernel's output is the reference's, at each row and column: both are the row's strategy's layer applied to the row.
-/
module

public import proofs.«01_k».proof.Proof.VHost
public import proofs.«01_k».proof.Proof.KRun

@[expose] public section

noncomputable section

namespace Cert.Math

open Cert.KernelIdeal hiding ix2
open Cert.KernelIdeal.Gen Cert.KernelIdeal.Hand
open Idealize.ShloMosaic Idealize.ShloMosaic.TcCoe Idealize.ShloMosaic.Tactic

/-- A row's output at a column, in terms of the arguments: by the row's strategy, the full layer, the two-step layer with the
    error function between, or the two-step linear one. -/
def out (x0 : S1x2048x768.Idx → EReal) (x1 : S1x2048x16.Idx → EReal) (x2 : S768x16000.Idx → EReal) (x3 : S768x4000.Idx → EReal)
    (x4 : S4000.Idx → EReal) (x5 : S4000x16000.Idx → EReal) (x6 : S16000.Idx → EReal) (x7 : S768x2000.Idx → EReal) (x8 : S2000.Idx → EReal)
    (x9 : S2000x16000.Idx → EReal) (x10 : S16000.Idx → EReal) (r : Fin 2048) (f : Fin 16000) : EReal :=
  if strat (fun r k => x1 (ix3 0 r k)) r = 2#32 then ∑ k, x0 (ix3 0 r k) * x2 (ix2 k f)
  else if strat (fun r k => x1 (ix3 0 r k)) r = 1#32 then
    (∑ k, gelu ((∑ j, x0 (ix3 0 r j) * x3 (ix2 j k)) + x4 (ix1 k)) * x5 (ix2 k f)) + x6 (ix1 f)
  else (∑ k, ((∑ j, x0 (ix3 0 r j) * x7 (ix2 j k)) + x8 (ix1 k)) * x9 (ix2 k f)) + x10 (ix1 f)

section reference
open Cert.ReferenceIdeal.Read

variable (x0 : S1x2048x768.Idx → EReal) (x1 : S1x2048x16.Idx → EReal) (x2 : S768x16000.Idx → EReal) (x3 : S768x4000.Idx → EReal)
    (x4 : S4000.Idx → EReal) (x5 : S4000x16000.Idx → EReal) (x6 : S16000.Idx → EReal) (x7 : S768x2000.Idx → EReal) (x8 : S2000.Idx → EReal)
    (x9 : S2000x16000.Idx → EReal) (x10 : S16000.Idx → EReal) (r : Fin 2048) (f : Fin 16000)

theorem ref_full : val_main_v13 (F := Ideal) x0 x2 (ix3 0 r f) = ∑ k, x0 (ix3 0 r k) * x2 (ix2 k f) := by
  pointwise [val_main_v13]

theorem ref_hid (k : Fin 4000) : val_main_v27 (F := Ideal) x0 x3 x4 (ix3 0 r k) = gelu ((∑ j, x0 (ix3 0 r j) * x3 (ix2 j k)) + x4 (ix1 k)) := by
  pointwise [val_main_v27, val_main_v26, val_main_v25, val_main_v24, val_main_v23, val_main_v22, val_main_v21, val_main_v20, val_main_v19, val_main_v18,
    val_main_v17, val_main_v16, val_main_v15, val_main_v14, val_main_cst_6, val_main_cst_7, val_main_cst_8, gelu]
  rfl

theorem ref_sp : val_main_v31 (F := Ideal) x0 x3 x4 x5 x6 (ix3 0 r f)
    = (∑ k, val_main_v27 (F := Ideal) x0 x3 x4 (ix3 0 r k) * x5 (ix2 k f)) + x6 (ix1 f) := by
  pointwise [val_main_v31, val_main_v30, val_main_v29, val_main_v28]

theorem ref_exp : val_main_v39 (F := Ideal) x0 x7 x8 x9 x10 (ix3 0 r f)
    = (∑ k, ((∑ j, x0 (ix3 0 r j) * x7 (ix2 j k)) + x8 (ix1 k)) * x9 (ix2 k f)) + x10 (ix1 f) := by
  pointwise [val_main_v39, val_main_v38, val_main_v37, val_main_v36, val_main_v35, val_main_v34, val_main_v33, val_main_v32]

theorem ref_is2 : val_main_call3_v0 (F := Ideal) x1 (ix3 0 r f) = IntOp.cmpi .eq (val_main_v12 (F := Ideal) x1 (ix2 0 r)) 2#32 := by
  pointwise [val_main_call3_v0, val_main_v42, val_main_v41, val_main_v40, val_main_c_9]

theorem ref_is1 : val_main_call2_v0 (F := Ideal) x1 (ix3 0 r f) = IntOp.cmpi .eq (val_main_v12 (F := Ideal) x1 (ix2 0 r)) 1#32 := by
  pointwise [val_main_call2_v0, val_main_v44, val_main_v43, val_main_v40, val_main_c_10]

theorem pick {α : Type} (s k : BitVec 32) (a b : α) : Scalar.select (IntOp.cmpi .eq s k) a b = if s = k then a else b := by
  by_cases h : s = k
  · simp [Scalar.select, IntOp.cmpi, h]
  · rw [if_neg h, show IntOp.cmpi .eq s k = 0#1 from by show BitVec.ofBool (s == k) = 0#1; rw [beq_eq_false_iff_ne.2 h]; rfl]
    rfl

/-- The reference, at a row and a column. -/
theorem ref_out : val_main_v46 (F := Ideal) x0 x1 x2 x3 x4 x5 x6 x7 x8 x9 x10 (ix3 0 r f) = out x0 x1 x2 x3 x4 x5 x6 x7 x8 x9 x10 r f := by
  rw [val_main_v46_apply, val_main_v45_apply, ref_is2, ref_is1, pick, pick, ref_strat, ref_full, ref_sp, ref_exp]
  simp only [ref_hid]
  rfl

end reference

section kernel

theorem att_of (x : S1x2048x16.Idx → EReal) (r : Fin 2048) (k : Fin 16) :
    shapeCast S2048x16 x shapeCasts_S1x2048x16_S2048x16 (ix2 r k) = x (ix3 0 r k) := by
  pointwise []

theorem x_of (x : S1x2048x768.Idx → EReal) (r : Fin 2048) (k : Fin 768) :
    shapeCast S2048x768 x shapeCasts_S1x2048x768_S2048x768 (ix2 r k) = x (ix3 0 r k) := by
  pointwise []

theorem b1_of (x : S4000.Idx → EReal) (k : Fin 4000) : shapeCast S1x4000 x shapeCasts_S4000_S1x4000 (ix2 0 k) = x (ix1 k) := by
  pointwise []

theorem b2_of (x : S2000.Idx → EReal) (k : Fin 2000) : shapeCast S1x2000 x shapeCasts_S2000_S1x2000 (ix2 0 k) = x (ix1 k) := by
  pointwise []

theorem bo_of (x : S16000.Idx → EReal) (k : Fin 16000) : shapeCast S1x16000 x shapeCasts_S16000_S1x16000 (ix2 0 k) = x (ix1 k) := by
  pointwise []

theorem lift_at (x : S2048x16000.Idx → EReal) (r : Fin 2048) (f : Fin 16000) :
    shapeCast S1x2048x16000 x shapeCasts_S2048x16000_S1x2048x16000 (ix3 0 r f) = x (ix2 r f) := by
  pointwise []

variable (m : (ℓ : Loc nD τ sig) → Buf (Elt Ideal) ℓ) (o : Outs (F := Ideal)) (c : Dev nD)

/-- A row's strategy, from the attention weights as the host lays them out. -/
theorem strat_host (x : S1x2048x16.Idx → EReal) (A : S2048x16.Idx → EReal) (h : A = shapeCast S2048x16 x shapeCasts_S1x2048x16_S2048x16) (r : Fin 2048) (l : Fin 128) :
    k0_pay4 (F := Ideal) A (ix2 r l) = strat (fun r k => x (ix3 0 r k)) r := by
  rw [k0_pay4_at]
  subst h
  simp only [att_of]

/-- The last region's array at a row and a column, the first two regions' arrays and the host's put in. -/
theorem fin_out (x0 : S1x2048x768.Idx → EReal) (x1 : S1x2048x16.Idx → EReal) (x2 : S768x16000.Idx → EReal) (x3 : S768x4000.Idx → EReal)
    (x4 : S4000.Idx → EReal) (x5 : S4000x16000.Idx → EReal) (x6 : S16000.Idx → EReal) (x7 : S768x2000.Idx → EReal) (x8 : S2000.Idx → EReal)
    (x9 : S2000x16000.Idx → EReal) (x10 : S16000.Idx → EReal)
    (S : S2048x128.Idx → BitVec 32) (XB : S2048x768.Idx → EReal) (H : S2048x4000.Idx → EReal) (MF : S2048x2000.Idx → EReal)
    (P : S768x16128.Idx → EReal) (R : S4000x16128.Idx → EReal) (BS : S1x16000.Idx → EReal) (U : S2000x16128.Idx → EReal) (BE : S1x16000.Idx → EReal)
    (hS : ∀ r, S (ix2 r 0) = strat (fun r k => x1 (ix3 0 r k)) r)
    (hX : XB = shapeCast S2048x768 x0 shapeCasts_S1x2048x768_S2048x768)
    (hH : H = hid XB x3 (shapeCast S1x4000 x4 shapeCasts_S4000_S1x4000))
    (hM : MF = low XB x7 (shapeCast S1x2000 x8 shapeCasts_S2000_S1x2000))
    (hP : ∀ k f, P (ix2 k (wide f)) = x2 (ix2 k f)) (hR : ∀ k f, R (ix2 k (wide f)) = x5 (ix2 k f)) (hU : ∀ k f, U (ix2 k (wide f)) = x9 (ix2 k f))
    (hBS : BS = shapeCast S1x16000 x6 shapeCasts_S16000_S1x16000) (hBE : BE = shapeCast S1x16000 x10 shapeCasts_S16000_S1x16000)
    (r : Fin 2048) (f : Fin 16000) :
    fin S XB H MF P R BS U BE (ix2 r f) = out x0 x1 x2 x3 x4 x5 x6 x7 x8 x9 x10 r f := by
  have xat : ∀ k, XB (ix2 r k) = x0 (ix3 0 r k) := fun k => by rw [hX, x_of]
  have hat : ∀ k, H (ix2 r k) = gelu ((∑ j, x0 (ix3 0 r j) * x3 (ix2 j k)) + x4 (ix1 k)) := fun k => by
    rw [hH]
    show gelu ((∑ j, XB (ix2 r j) * x3 (ix2 j k)) + shapeCast S1x4000 x4 shapeCasts_S4000_S1x4000 (ix2 0 k)) = _
    rw [b1_of]
    simp only [xat]
  have mat : ∀ k, MF (ix2 r k) = (∑ j, x0 (ix3 0 r j) * x7 (ix2 j k)) + x8 (ix1 k) := fun k => by
    rw [hM]
    show (∑ j, XB (ix2 r j) * x7 (ix2 j k)) + shapeCast S1x2000 x8 shapeCasts_S2000_S1x2000 (ix2 0 k) = _
    rw [b2_of]
    simp only [xat]
  show (if S (ix2 r 0) = 2#32 then ∑ k, XB (ix2 r k) * P (ix2 k (wide f))
    else if S (ix2 r 0) = 1#32 then (∑ k, H (ix2 r k) * R (ix2 k (wide f))) + BS (ix2 0 f)
    else (∑ k, MF (ix2 r k) * U (ix2 k (wide f))) + BE (ix2 0 f)) = _
  rw [hS, hBS, hBE, bo_of, bo_of]
  simp only [xat, hat, mat, hP, hR, hU]
  rfl

/-- The last region's table holds the three strategies' counts. -/
theorem tab_cnt (A : S2048x16.Idx → EReal) : tab (F := Ideal) (cntTab (F := Ideal) A) 0 = cnt0 (F := Ideal) A ∧ tab (F := Ideal) (cntTab (F := Ideal) A) 1 = cnt1 (F := Ideal) A ∧ tab (F := Ideal) (cntTab (F := Ideal) A) 2 = cnt2 (F := Ideal) A := by
  unfold tab cntTab
  exact ⟨if_pos rfl, (if_neg (by decide)).trans (if_pos rfl), (if_neg (by decide)).trans (if_neg (by decide))⟩

theorem tab_tabs (k : Fin 3) : tabOf (tabs m) k = tab (F := Ideal) (cntTab (V1 m 0 main_v1)) k := by
  unfold tabOf tabs
  exact congrArg (fun T : S3.Idx → BitVec 32 => tab (F := Ideal) T k) (funext fun x => by unfold tblOf; exact Eq.refl _)

theorem hid_congr {x x' : S2048x768.Idx → EReal} {w w' : S768x4000.Idx → EReal} {b b' : S1x4000.Idx → EReal} (hx : x = x') (hw : w = w') (hb : b = b') :
    hid x w b = hid x' w' b' := by rw [hx, hw, hb]

theorem low_congr {x x' : S2048x768.Idx → EReal} {w w' : S768x2000.Idx → EReal} {b b' : S1x2000.Idx → EReal} (hx : x = x') (hw : w = w') (hb : b = b') :
    low x w b = low x' w' b' := by rw [hx, hw, hb]

/-- The kernel's result, at a row and a column. -/
theorem kernel_out (h : sel12 m o c) (r : Fin 2048) (f : Fin 16000) :
    (V13 m o c main_v13 : S1x2048x16000.Idx → EReal) (ix3 0 r f)
      = out (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (m (c.tc.loc main_arg8)) (m (c.tc.loc main_arg9)) (m (c.tc.loc main_arg10)) r f := by
  obtain ⟨⟨h2, h4⟩, h12⟩ := h
  have hc : c = 0 := Subsingleton.elim _ _
  subst hc
  have e2 : (V11 m o 0 main_v2_1 : S2048x128.Idx → BitVec 32) = k0_pay4 (F := Ideal) (V1 m 0 main_v1) := by
    rw [V11_of4 m o 0 _ (by decide) (by decide) (by decide) (by decide) (by decide) (by decide) (by decide), V4_of m o 0 _ (by decide), V3_of m o 0 _ (by decide)]
    exact strats_next _ _ _ _ h2
  have hs : ∀ r : Fin 2048, (V11 m o 0 main_v2_1 : S2048x128.Idx → BitVec 32) (ix2 r 0) = strat (fun r k => (V1 m 0 main_v1 : S2048x16.Idx → EReal) (ix2 r k)) r := fun r => by
    rw [e2, k0_pay4_at]
  have hx : (V11 m o 0 main_v2_2 : S2048x768.Idx → EReal) = V1 m 0 main_v0 := by
    rw [V11_of4 m o 0 _ (by decide) (by decide) (by decide) (by decide) (by decide) (by decide) (by decide), V4_of m o 0 _ (by decide), V3_of m o 0 _ (by decide)]
    exact rows_next _ _ _ _ h2
  have hh : (V11 m o 0 main_v5_0 : S2048x4000.Idx → EReal) = hid (V3 m o 0 main_v0) (V3 m o 0 main_arg3) (V3 m o 0 main_v3) := by
    rw [V11_of4 m o 0 _ (by decide) (by decide) (by decide) (by decide) (by decide) (by decide) (by decide)]
    exact hidden_next _ _ _ _ h4
  have hl : (V11 m o 0 main_v5_1 : S2048x2000.Idx → EReal) = low (V3 m o 0 main_v0) (V3 m o 0 main_arg7) (V3 m o 0 main_v4) := by
    rw [V11_of4 m o 0 _ (by decide) (by decide) (by decide) (by decide) (by decide) (by decide) (by decide)]
    exact low_next _ _ _ _ h4
  have hf := last_next _ _ _ _ h12
    (fun r e => by rw [tab_tabs, (tab_cnt _).1]; exact pos_cnt0 (V1 m 0 main_v1) r ((hs r).symm.trans e))
    (fun r e => by rw [tab_tabs, (tab_cnt _).2.1]; exact pos_cnt1 (V1 m 0 main_v1) r ((hs r).symm.trans e))
    (fun r e => by rw [tab_tabs, (tab_cnt _).2.2]; exact pos_cnt2 (V1 m 0 main_v1) r ((hs r).symm.trans e))
    (fun r => by
      have e := strat_cases (fun r k => (V1 m 0 main_v1 : S2048x16.Idx → EReal) (ix2 r k)) r
      rw [← hs r] at e
      exact e)
  rw [V13_out, lift_at]
  refine (congrFun hf (ix2 r f)).trans ?_
  refine fin_out _ _ _ _ _ _ _ _ _ _ _ _ _ _ _ _ _ _ _ _ (fun r => ?_) ?_ ?_ ?_ (V11_full m o 0) (V11_sp m o 0) (V11_exp m o 0) (V11_bsp m o 0) (V11_bexp m o 0) r f
  · exact (congrFun e2 (ix2 r 0)).trans (strat_host _ _ (V1_att m 0) r 0)
  · exact hx.trans (V1_x m 0)
  · exact hh.trans (hid_congr ((V3_x m o 0).trans hx.symm) (V3_arg m o 0 main_arg3 (by decide) (by decide) (by decide)) (V3_b1 m o 0))
  · exact hl.trans (low_congr ((V3_x m o 0).trans hx.symm) (V3_arg m o 0 main_arg7 (by decide) (by decide) (by decide)) (V3_b2 m o 0))

/-- The kernel's result is the reference's of the same arguments. -/
theorem kernel_ref (h : sel12 m o c) :
    (V13 m o c main_v13 : S1x2048x16000.Idx → EReal)
      = Cert.ReferenceIdeal.Read.val_main_v46 (F := Ideal) (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (m (c.tc.loc main_arg8)) (m (c.tc.loc main_arg9)) (m (c.tc.loc main_arg10)) := by
  funext (i : S1x2048x16000.Idx)
  obtain ⟨r, f, rfl⟩ : ∃ (r : Fin 2048) (f : Fin 16000), i = ix3 0 r f :=
    ⟨i 1, i 2, (eq_ix3 i).trans (congrArg (fun z : Fin 1 => ix3 z (i 1) (i 2)) (Subsingleton.elim _ _))⟩
  exact (kernel_out m o c h _ _).trans (ref_out _ _ _ _ _ _ _ _ _ _ _ _ _).symm

end kernel

end Cert.Math

end
-- ==== Proof.lean ====
/-
  The proof of this directory's certificate (Defs.lean). The kernel runs: three calls and the host operations between
  them as one chain of segments (`Hand.run_all`), at either reading of floats; the reference runs as its printed host
  operations. The rewritten kernel is the kernel's own text: nothing was rewritten. Over the extended reals the kernel's
  result is the reference's of the same arguments (`Math.kernel_ref`).
-/
module

public import proofs.«01_k».proof.Defs
public import proofs.«01_k».proof.Proof.KRun
public import proofs.«01_k».proof.Proof.BRun
public import proofs.«01_k».proof.Proof.VEq
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.ShloMosaic.TcCoe Idealize.SL.Sem

/-- Over the extended reals the kernel and the reference end with the same result. -/
theorem equal : Cert.algebraic_KernelIdeal_ReferenceIdeal (hKernelIdeal := Cert.KernelIdeal.Gen.facts) (hReferenceIdeal := Cert.ReferenceIdeal.Gen.facts) := by
  intro m g m' g' _ hm
  refine ⟨fun c => Cert.ReferenceIdeal.Value.res_main_v46 (F := Ideal) m' c, ?_, Cert.ReferenceIdeal.Value.run (F := Ideal) m' g'⟩
  refine (θ_run Cert.KernelIdeal.defs _ _).mono (fun r h c => ?_) (Cert.KernelIdeal.Hand.run_all (F := Ideal) m g)
  obtain ⟨hargs, o, ho, hv⟩ := h.1 c
  refine ⟨?_, hargs⟩
  obtain ⟨h0, h1, h2, h3, h4, h5, h6, h7, h8, h9, h10⟩ := hm c
  refine hv.trans ((Cert.Math.kernel_ref m o c ho).trans ?_)
  show _ = Cert.ReferenceIdeal.Value.res_main_v46 (F := Ideal) m' c
  rw [Cert.ReferenceIdeal.Read.val_main_v46_eq, h0, h1, h2, h3, h4, h5, h6, h7, h8, h9, h10]

/-- The kernel as compiled, the kernel over the extended reals, and the reference run and leave their arguments. -/
theorem claim : Cert.Claim := ⟨Cert.Kernel.Gen.facts, Cert.KernelIdeal.Gen.facts, Cert.ReferenceIdeal.Gen.facts,
  fun m ρ _ => (θ_run Cert.Kernel.defs _ _).mono (fun _ h => ⟨fun c => (h.1 c).1, h.2⟩) (Cert.Kernel.Hand.run_all (F := Bits) m ρ),
  fun m ρ _ => (θ_run Cert.KernelIdeal.defs _ _).mono (fun _ h => ⟨fun c => (h.1 c).1, h.2⟩) (Cert.KernelIdeal.Hand.run_all (F := Ideal) m ρ),
  fun m ρ _ => (θ_run Cert.ReferenceIdeal.defs _ _).mono (fun r h => ⟨fun c => (h c).2,
        Idealize.ShloMosaic.sem_eq_zero_of_no_sems (by decide) r.2⟩)
      (Cert.ReferenceIdeal.Value.run (F := Ideal) m ρ),
  trivial, equal⟩

end Cert.Proof

end
